-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_nonnegative_inputs [hPre_nonnegative_inputs : Cert.Pre_nonnegative_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_nonnegative_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_nonnegative_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ChebyshevIdeal (m : (ℓ : Loc Cert.ChebyshevIdeal.nD Cert.ChebyshevIdeal.τ Cert.ChebyshevIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_nonnegative_inputs [hKernelIdeal : Cert.KernelIdeal.Facts] [hPre_nonnegative_inputs : Cert.Pre_nonnegative_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_nonnegative_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ChebyshevIdeal [hChebyshevIdeal : Cert.ChebyshevIdeal.Facts] : Prop :=
  ∀ (m : (ℓ : Loc Cert.ChebyshevIdeal.nD Cert.ChebyshevIdeal.τ Cert.ChebyshevIdeal.sig) → Buf (Elt Ideal) ℓ) (g : Dev Cert.ChebyshevIdeal.nD → PrngReg), Pre_ChebyshevIdeal m →
    θ_run (Cert.ChebyshevIdeal.defs (F := Ideal)) (onTc (τ := Cert.ChebyshevIdeal.τ) (Cert.ChebyshevIdeal.main (F := Ideal))) ⟨m, fun _ => 0, g⟩ (fun r => (∀ c : Dev Cert.ChebyshevIdeal.nD,
      r.2.mem ((c.tc : Thread Cert.ChebyshevIdeal.nD Cert.ChebyshevIdeal.τ).loc Cert.ChebyshevIdeal.main_arg0) = m ((c.tc : Thread Cert.ChebyshevIdeal.nD Cert.ChebyshevIdeal.τ).loc Cert.ChebyshevIdeal.main_arg0)
      ∧ r.2.mem ((c.tc : Thread Cert.ChebyshevIdeal.nD Cert.ChebyshevIdeal.τ).loc Cert.ChebyshevIdeal.main_arg1) = m ((c.tc : Thread Cert.ChebyshevIdeal.nD Cert.ChebyshevIdeal.τ).loc Cert.ChebyshevIdeal.main_arg1))
      ∧ r.2.sem = fun _ => 0)

def preserves_Kernel_KernelIdeal : Prop :=
  True

def algebraic_KernelIdeal_ReferenceIdeal_on_exact_part [hKernelIdeal : Cert.KernelIdeal.Facts] [hReferenceIdeal : Cert.ReferenceIdeal.Facts] [hOn_exact_part : Cert.On_exact_part.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![6400000, 8]⟩ : Shape).Idx, (Cert.On_exact_part.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 i = 1#1 → r.2.mem ((c.tc : Thread Cert.KernelIdeal.nD Cert.KernelIdeal.τ).loc Cert.KernelIdeal.main_v3) i = v0 c i)
          ∧ (∀ i : (⟨2, ![6400000, 1]⟩ : Shape).Idx, (Cert.On_exact_part.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 i = 1#1 → r.2.mem ((c.tc : Thread Cert.KernelIdeal.nD Cert.KernelIdeal.τ).loc Cert.KernelIdeal.main_v4) i = v1 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![6400000, 8]⟩ : Shape).Idx, (Cert.On_exact_part.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 i = 1#1 → r.2.mem ((c.tc : Thread Cert.ReferenceIdeal.nD Cert.ReferenceIdeal.τ).loc Cert.ReferenceIdeal.main_v34) i = v0 c i)
          ∧ (∀ i : (⟨2, ![6400000, 1]⟩ : Shape).Idx, (Cert.On_exact_part.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 i = 1#1 → r.2.mem ((c.tc : Thread Cert.ReferenceIdeal.nD Cert.ReferenceIdeal.τ).loc Cert.ReferenceIdeal.main_v32) i = v1 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def algebraic_KernelIdeal_ChebyshevIdeal_on_below_infinity [hKernelIdeal : Cert.KernelIdeal.Facts] [hChebyshevIdeal : Cert.ChebyshevIdeal.Facts] [hOn_below_infinity : Cert.On_below_infinity.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ChebyshevIdeal.nD Cert.ChebyshevIdeal.τ Cert.ChebyshevIdeal.sig) → Buf (Elt Ideal) ℓ) (g' : Dev Cert.ChebyshevIdeal.nD → PrngReg), Pre_KernelIdeal m →
    (∀ c : Dev Cert.KernelIdeal.nD,
      m' ((c.tc : Thread Cert.ChebyshevIdeal.nD Cert.ChebyshevIdeal.τ).loc Cert.ChebyshevIdeal.main_arg0) = m ((c.tc : Thread Cert.KernelIdeal.nD Cert.KernelIdeal.τ).loc Cert.KernelIdeal.main_arg0)
      ∧ m' ((c.tc : Thread Cert.ChebyshevIdeal.nD Cert.ChebyshevIdeal.τ).loc Cert.ChebyshevIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![6400000, 8]⟩ : Shape).Idx, (Cert.On_below_infinity.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 i = 1#1 → r.2.mem ((c.tc : Thread Cert.KernelIdeal.nD Cert.KernelIdeal.τ).loc Cert.KernelIdeal.main_v3) i = v0 c i)
          ∧ (∀ i : (⟨2, ![6400000, 1]⟩ : Shape).Idx, (Cert.On_below_infinity.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 i = 1#1 → r.2.mem ((c.tc : Thread Cert.KernelIdeal.nD Cert.KernelIdeal.τ).loc Cert.KernelIdeal.main_v4) i = v1 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ChebyshevIdeal.defs (F := Ideal)) (onTc (τ := Cert.ChebyshevIdeal.τ) (Cert.ChebyshevIdeal.main (F := Ideal))) ⟨m', fun _ => 0, g'⟩ (fun r => ∀ c : Dev Cert.ChebyshevIdeal.nD,
          (∀ i : (⟨2, ![6400000, 8]⟩ : Shape).Idx, (Cert.On_below_infinity.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 i = 1#1 → r.2.mem ((c.tc : Thread Cert.ChebyshevIdeal.nD Cert.ChebyshevIdeal.τ).loc Cert.ChebyshevIdeal.main_v129) i = v0 c i)
          ∧ (∀ i : (⟨2, ![6400000, 1]⟩ : Shape).Idx, (Cert.On_below_infinity.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 i = 1#1 → r.2.mem ((c.tc : Thread Cert.ChebyshevIdeal.nD Cert.ChebyshevIdeal.τ).loc Cert.ChebyshevIdeal.main_v124) i = v1 c i)
          ∧ r.2.mem ((c.tc : Thread Cert.ChebyshevIdeal.nD Cert.ChebyshevIdeal.τ).loc Cert.ChebyshevIdeal.main_arg0) = m' ((c.tc : Thread Cert.ChebyshevIdeal.nD Cert.ChebyshevIdeal.τ).loc Cert.ChebyshevIdeal.main_arg0)
          ∧ r.2.mem ((c.tc : Thread Cert.ChebyshevIdeal.nD Cert.ChebyshevIdeal.τ).loc Cert.ChebyshevIdeal.main_arg1) = m' ((c.tc : Thread Cert.ChebyshevIdeal.nD Cert.ChebyshevIdeal.τ).loc Cert.ChebyshevIdeal.main_arg1))

def holds_KernelIdeal_embedding_close_pre_nonnegative_inputs [hKernelIdeal : Cert.KernelIdeal.Facts] [hPre_nonnegative_inputs : Cert.Pre_nonnegative_inputs.Facts] [hPost_embedding_close : Cert.Post_embedding_close.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_nonnegative_inputs m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ (Cert.Post_embedding_close.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (r.2.mem ((c.tc : Thread Cert.KernelIdeal.nD Cert.KernelIdeal.τ).loc Cert.KernelIdeal.main_v3)) (r.2.mem ((c.tc : Thread Cert.KernelIdeal.nD Cert.KernelIdeal.τ).loc Cert.KernelIdeal.main_v4))) = (fun _ => 1#1))

def Claim : Prop :=
  ∃ (hKernel : Cert.Kernel.Facts) (hKernelIdeal : Cert.KernelIdeal.Facts) (hReferenceIdeal : Cert.ReferenceIdeal.Facts) (hChebyshevIdeal : Cert.ChebyshevIdeal.Facts) (hPre_nonnegative_inputs : Cert.Pre_nonnegative_inputs.Facts) (hPost_embedding_close : Cert.Post_embedding_close.Facts) (hOn_exact_part : Cert.On_exact_part.Facts) (hOn_below_infinity : Cert.On_below_infinity.Facts),
    quiescent_Kernel (hKernel := hKernel)
    ∧ quiescent_KernelIdeal (hKernelIdeal := hKernelIdeal)
    ∧ quiescent_KernelIdeal_pre_nonnegative_inputs (hKernelIdeal := hKernelIdeal) (hPre_nonnegative_inputs := hPre_nonnegative_inputs)
    ∧ quiescent_ReferenceIdeal (hReferenceIdeal := hReferenceIdeal)
    ∧ quiescent_ChebyshevIdeal (hChebyshevIdeal := hChebyshevIdeal)
    ∧ preserves_Kernel_KernelIdeal
    ∧ algebraic_KernelIdeal_ReferenceIdeal_on_exact_part (hKernelIdeal := hKernelIdeal) (hReferenceIdeal := hReferenceIdeal) (hOn_exact_part := hOn_exact_part)
    ∧ algebraic_KernelIdeal_ChebyshevIdeal_on_below_infinity (hKernelIdeal := hKernelIdeal) (hChebyshevIdeal := hChebyshevIdeal) (hOn_below_infinity := hOn_below_infinity)
    ∧ holds_KernelIdeal_embedding_close_pre_nonnegative_inputs (hKernelIdeal := hKernelIdeal) (hPre_nonnegative_inputs := hPre_nonnegative_inputs) (hPost_embedding_close := hPost_embedding_close)
-- ==== On_below_infinity.lean ====
abbrev S6400000x1 : Shape := ⟨2, ![6400000, 1]⟩
abbrev S1x8 : Shape := ⟨2, ![1, 8]⟩
abbrev S_ : Shape := ⟨0, ![]⟩
abbrev S6400000x8 : Shape := ⟨2, ![6400000, 8]⟩

class Facts : Prop where
  bcast_S_S6400000x1 : S_.BroadcastsInDim S6400000x1 (![] : Fin 0 → Fin S6400000x1.rank)
  bcast_S6400000x1_S6400000x8_0_1 : S6400000x1.BroadcastsInDim S6400000x8 (![0, 1] : Fin 2 → Fin S6400000x8.rank)

variable [Facts]

def fn {F : FTy → Type} [FloatOps F] (main_arg0 : FVec F S6400000x1 .f32) (main_arg1 : FVec F S1x8 .f32) : IVec S6400000x8 1 × IVec S6400000x1 1 :=
  let main_cst : FVec F S_ .f32 := constant S_ .f32 0x7F800000#32
  let main_v0 : FVec F S6400000x1 .f32 := broadcastInDim S6400000x1 ![] bcast_S_S6400000x1 main_cst
  let main_v1 : IVec S6400000x1 1 := cmpf .olt main_arg0 main_v0
  let main_v2 : IVec S6400000x8 1 := broadcastInDim S6400000x8 ![0, 1] bcast_S6400000x1_S6400000x8_0_1 main_v1
  let main_cst_0 : FVec F S_ .f32 := constant S_ .f32 0x7F800000#32
  let main_v3 : FVec F S6400000x1 .f32 := broadcastInDim S6400000x1 ![] bcast_S_S6400000x1 main_cst_0
  let main_v4 : IVec S6400000x1 1 := cmpf .olt main_arg0 main_v3
  (main_v2, main_v4)
-- ==== On_exact_part.lean ====
abbrev S6400000x1 : Shape := ⟨2, ![6400000, 1]⟩
abbrev S1x8 : Shape := ⟨2, ![1, 8]⟩
abbrev S_ : Shape := ⟨0, ![]⟩
abbrev S6400000x8 : Shape := ⟨2, ![6400000, 8]⟩

class Facts : Prop where
  bcast_S_S6400000x1 : S_.BroadcastsInDim S6400000x1 (![] : Fin 0 → Fin S6400000x1.rank)
  bcast_S6400000x1_S6400000x8_0_1 : S6400000x1.BroadcastsInDim S6400000x8 (![0, 1] : Fin 2 → Fin S6400000x8.rank)

variable [Facts]

def fn {F : FTy → Type} [FloatOps F] (main_arg0 : FVec F S6400000x1 .f32) (main_arg1 : FVec F S1x8 .f32) : IVec S6400000x8 1 × IVec S6400000x1 1 :=
  let main_v0 : FVec F S6400000x1 .f32 := Host.absf main_arg0
  let main_cst : FVec F S_ .f32 := constant S_ .f32 0x3F800000#32
  let main_v1 : FVec F S6400000x1 .f32 := broadcastInDim S6400000x1 ![] bcast_S_S6400000x1 main_cst
  let main_v2 : IVec S6400000x1 1 := cmpf .oge main_v0 main_v1
  let main_cst_0 : FVec F S_ .f32 := constant S_ .f32 0x7F800000#32
  let main_v3 : FVec F S6400000x1 .f32 := broadcastInDim S6400000x1 ![] bcast_S_S6400000x1 main_cst_0
  let main_v4 : IVec S6400000x1 1 := cmpf .olt main_arg0 main_v3
  let main_v5 : IVec S6400000x1 1 := andi main_v2 main_v4
  let main_v6 : IVec S6400000x8 1 := broadcastInDim S6400000x8 ![0, 1] bcast_S6400000x1_S6400000x8_0_1 main_v5
  let main_cst_1 : FVec F S_ .f32 := constant S_ .f32 0x7F800000#32
  let main_v7 : FVec F S6400000x1 .f32 := broadcastInDim S6400000x1 ![] bcast_S_S6400000x1 main_cst_1
  let main_v8 : IVec S6400000x1 1 := cmpf .olt main_arg0 main_v7
  (main_v6, main_v8)
-- ==== Post_embedding_close.lean ====
abbrev S6400000x1 : Shape := ⟨2, ![6400000, 1]⟩
abbrev S1x8 : Shape := ⟨2, ![1, 8]⟩
abbrev S6400000x8 : Shape := ⟨2, ![6400000, 8]⟩
abbrev S_ : Shape := ⟨0, ![]⟩

class Facts : Prop where
  bcast_S6400000x1_S6400000x8_0_1 : S6400000x1.BroadcastsInDim S6400000x8 (![0, 1] : Fin 2 → Fin S6400000x8.rank)
  bcast_S1x8_S6400000x8_0_1 : S1x8.BroadcastsInDim S6400000x8 (![0, 1] : Fin 2 → Fin S6400000x8.rank)
  bcast_S_S6400000x8 : S_.BroadcastsInDim S6400000x8 (![] : Fin 0 → Fin S6400000x8.rank)
  bcast_S_S6400000x1 : S_.BroadcastsInDim S6400000x1 (![] : Fin 0 → Fin S6400000x1.rank)

variable [Facts]

def fn_where {F : FTy → Type} [FloatOps F] (arg0 : IVec S6400000x8 1) (arg1 : FVec F S_ .f32) (arg2 : FVec F S6400000x8 .f32) : FVec F S6400000x8 .f32 :=
  let v0 : FVec F S_ .f32 := id arg1
  let v1 : FVec F S6400000x8 .f32 := broadcastInDim S6400000x8 ![] bcast_S_S6400000x8 v0
  let v2 : FVec F S6400000x8 .f32 := select arg0 v1 arg2
  v2

def fn_where_0 {F : FTy → Type} [FloatOps F] (arg0 : IVec S6400000x1 1) (arg1 : FVec F S6400000x1 .f32) (arg2 : FVec F S_ .f32) : FVec F S6400000x1 .f32 :=
  let v0 : FVec F S_ .f32 := id arg2
  let v1 : FVec F S6400000x1 .f32 := broadcastInDim S6400000x1 ![] bcast_S_S6400000x1 v0
  let v2 : FVec F S6400000x1 .f32 := select arg0 arg1 v1
  v2

def fn_part2 {F : FTy → Type} [FloatOps F] (main_arg2 : FVec F S6400000x8 .f32) (main_v34 : FVec F S6400000x8 .f32) : IVec S6400000x8 1 :=
  let main_v35 : FVec F S6400000x8 .f32 := subf main_arg2 main_v34
  let main_v36 : FVec F S6400000x8 .f32 := Host.absf main_v35
  let main_cst_12 : FVec F S_ .f32 := constant S_ .f32 0x3727C5AC#32
  let main_v37 : FVec F S6400000x8 .f32 := broadcastInDim S6400000x8 ![] bcast_S_S6400000x8 main_cst_12
  let main_v38 : IVec S6400000x8 1 := cmpf .ole main_v36 main_v37
  main_v38

def fn_part1 {F : FTy → Type} [FloatOps F] (main_arg0 : FVec F S6400000x1 .f32) (main_arg2 : FVec F S6400000x8 .f32) (main_v13 : FVec F S6400000x8 .f32) (main_v17 : FVec F S6400000x1 .f32) : IVec S6400000x8 1 :=
  let main_cst_5 : FVec F S_ .f32 := constant S_ .f32 0x3F800000#32
  let main_v18 : FVec F S6400000x1 .f32 := broadcastInDim S6400000x1 ![] bcast_S_S6400000x1 main_cst_5
  let main_v19 : FVec F S6400000x1 .f32 := subf main_v18 main_v17
  let main_cst_6 : FVec F S_ .f32 := constant S_ .f32 0x40E00000#32
  let main_v20 : FVec F S6400000x1 .f32 := broadcastInDim S6400000x1 ![] bcast_S_S6400000x1 main_cst_6
  let main_v21 : FVec F S6400000x1 .f32 := Host.powf main_arg0 main_v20
  let main_cst_7 : FVec F S_ .f32 := constant S_ .f32 0x42400000#32
  let main_v22 : FVec F S6400000x1 .f32 := broadcastInDim S6400000x1 ![] bcast_S_S6400000x1 main_cst_7
  let main_v23 : FVec F S6400000x1 .f32 := mulf main_v22 main_v21
  let main_v24 : FVec F S6400000x1 .f32 := addf main_v19 main_v23
  let main_cst_8 : FVec F S_ .f32 := constant S_ .f32 0x41000000#32
  let main_v25 : FVec F S6400000x1 .f32 := broadcastInDim S6400000x1 ![] bcast_S_S6400000x1 main_cst_8
  let main_v26 : FVec F S6400000x1 .f32 := Host.powf main_arg0 main_v25
  let main_cst_9 : FVec F S_ .f32 := constant S_ .f32 0x41A80000#32
  let main_v27 : FVec F S6400000x1 .f32 := broadcastInDim S6400000x1 ![] bcast_S_S6400000x1 main_cst_9
  let main_v28 : FVec F S6400000x1 .f32 := mulf main_v27 main_v26
  let main_v29 : FVec F S6400000x1 .f32 := subf main_v24 main_v28
  let main_cst_10 : FVec F S_ .f32 := constant S_ .f32 0x00000000#32
  let main_v30 : FVec F S6400000x1 .f32 := broadcastInDim S6400000x1 ![] bcast_S_S6400000x1 main_cst_10
  let main_v31 : IVec S6400000x1 1 := cmpf .oge main_v29 main_v30
  let main_cst_11 : FVec F S_ .f32 := constant S_ .f32 0x00000000#32
  let main_v32 : FVec F S6400000x1 .f32 := fn_where_0 (F := F) main_v31 main_v29 main_cst_11
  let main_v33 : FVec F S6400000x8 .f32 := broadcastInDim S6400000x8 ![0, 1] bcast_S6400000x1_S6400000x8_0_1 main_v32
  let main_v34 : FVec F S6400000x8 .f32 := mulf main_v13 main_v33
  fn_part2 (F := F) main_arg2 main_v34

def fn {F : FTy → Type} [FloatOps F] (main_arg0 : FVec F S6400000x1 .f32) (main_arg1 : FVec F S1x8 .f32) (main_arg2 : FVec F S6400000x8 .f32) (main_arg3 : FVec F S6400000x1 .f32) : IVec S6400000x8 1 :=
  let main_v0 : FVec F S6400000x8 .f32 := broadcastInDim S6400000x8 ![0, 1] bcast_S6400000x1_S6400000x8_0_1 main_arg0
  let main_v1 : FVec F S6400000x8 .f32 := broadcastInDim S6400000x8 ![0, 1] bcast_S1x8_S6400000x8_0_1 main_arg1
  let main_v2 : FVec F S6400000x8 .f32 := mulf main_v0 main_v1
  let main_cst : FVec F S_ .f32 := constant S_ .f32 0x00000000#32
  let main_v3 : FVec F S6400000x8 .f32 := broadcastInDim S6400000x8 ![] bcast_S_S6400000x8 main_cst
  let main_v4 : IVec S6400000x8 1 := cmpf .oeq main_v2 main_v3
  let main_cst_0 : FVec F S_ .f32 := constant S_ .f32 0x40490FDB#32
  let main_v5 : FVec F S6400000x8 .f32 := broadcastInDim S6400000x8 ![] bcast_S_S6400000x8 main_cst_0
  let main_v6 : FVec F S6400000x8 .f32 := mulf main_v5 main_v2
  let main_v7 : FVec F S6400000x8 .f32 := Host.sin main_v6
  let main_cst_1 : FVec F S_ .f32 := constant S_ .f32 0x40490FDB#32
  let main_v8 : FVec F S6400000x8 .f32 := broadcastInDim S6400000x8 ![] bcast_S_S6400000x8 main_cst_1
  let main_v9 : FVec F S6400000x8 .f32 := mulf main_v8 main_v2
  let main_v10 : FVec F S6400000x8 .f32 := Host.divf main_v7 main_v9
  let main_cst_2 : FVec F S_ .f32 := constant S_ .f32 0x3F800000#32
  let main_v11 : FVec F S6400000x8 .f32 := fn_where (F := F) main_v4 main_cst_2 main_v10
  let main_v12 : FVec F S6400000x8 .f32 := broadcastInDim S6400000x8 ![0, 1] bcast_S1x8_S6400000x8_0_1 main_arg1
  let main_v13 : FVec F S6400000x8 .f32 := mulf main_v11 main_v12
  let main_cst_3 : FVec F S_ .f32 := constant S_ .f32 0x40C00000#32
  let main_v14 : FVec F S6400000x1 .f32 := broadcastInDim S6400000x1 ![] bcast_S_S6400000x1 main_cst_3
  let main_v15 : FVec F S6400000x1 .f32 := Host.powf main_arg0 main_v14
  let main_cst_4 : FVec F S_ .f32 := constant S_ .f32 0x41E00000#32
  let main_v16 : FVec F S6400000x1 .f32 := broadcastInDim S6400000x1 ![] bcast_S_S6400000x1 main_cst_4
  let main_v17 : FVec F S6400000x1 .f32 := mulf main_v16 main_v15
  fn_part1 (F := F) main_arg0 main_arg2 main_v13 main_v17
-- ==== Pre_nonnegative_inputs.lean ====
abbrev S6400000x1 : Shape := ⟨2, ![6400000, 1]⟩
abbrev S1x8 : Shape := ⟨2, ![1, 8]⟩
abbrev S_ : Shape := ⟨0, ![]⟩

class Facts : Prop where
  bcast_S_S1x8 : S_.BroadcastsInDim S1x8 (![] : Fin 0 → Fin S1x8.rank)
  bcast_S_S6400000x1 : S_.BroadcastsInDim S6400000x1 (![] : Fin 0 → Fin S6400000x1.rank)

variable [Facts]

def fn {F : FTy → Type} [FloatOps F] (main_arg0 : FVec F S6400000x1 .f32) (main_arg1 : FVec F S1x8 .f32) : IVec S6400000x1 1 × IVec S1x8 1 :=
  let main_v0 : IVec S1x8 32 := iotaInDim S1x8 32 1
  let main_c : IVec S_ 32 := constantI S_ 32 1#32
  let main_v1 : IVec S1x8 32 := broadcastInDim S1x8 ![] bcast_S_S1x8 main_c
  let main_v2 : IVec S1x8 32 := addi main_v0 main_v1
  let main_cst : FVec F S_ .f32 := constant S_ .f32 0x00000000#32
  let main_v3 : FVec F S6400000x1 .f32 := broadcastInDim S6400000x1 ![] bcast_S_S6400000x1 main_cst
  let main_v4 : IVec S6400000x1 1 := cmpf .oge main_arg0 main_v3
  let main_cst_0 : FVec F S_ .f32 := constant S_ .f32 0x7F800000#32
  let main_v5 : FVec F S6400000x1 .f32 := broadcastInDim S6400000x1 ![] bcast_S_S6400000x1 main_cst_0
  let main_v6 : IVec S6400000x1 1 := cmpf .olt main_arg0 main_v5
  let main_v7 : IVec S6400000x1 1 := andi main_v4 main_v6
  let main_v8 : FVec F S1x8 .f32 := sitofp .f32 main_v2
  let main_v9 : IVec S1x8 1 := cmpf .oeq main_arg1 main_v8
  (main_v7, main_v9)
-- ==== Kernel.lean ====
abbrev S6400000x1 : Shape := ⟨2, ![6400000, 1]⟩
abbrev S1x8 : Shape := ⟨2, ![1, 8]⟩
abbrev S50000x128 : Shape := ⟨2, ![50000, 128]⟩
abbrev S50000x8x128 : Shape := ⟨3, ![50000, 8, 128]⟩
abbrev S1000x128 : Shape := ⟨2, ![1000, 128]⟩
abbrev S1000x8x128 : Shape := ⟨3, ![1000, 8, 128]⟩
abbrev S1000x1x128 : Shape := ⟨3, ![1000, 1, 128]⟩
abbrev S1x8x1 : Shape := ⟨3, ![1, 8, 1]⟩
abbrev S50000x128x8 : Shape := ⟨3, ![50000, 128, 8]⟩
abbrev S6400000x8 : Shape := ⟨2, ![6400000, 8]⟩

abbrev nBuf : Space → Nat
  | .hbm => 8
  | .vmem => 6
  | .smem => 0
  | _ => 0

abbrev bufTy : (tb : Table) → Fin (tcTables nBuf tb) → BufTy
  | .hbm, ⟨0, _⟩ => ⟨S6400000x1, .f32⟩
  | .hbm, ⟨1, _⟩ => ⟨S1x8, .f32⟩
  | .hbm, ⟨2, _⟩ => ⟨S50000x128, .f32⟩
  | .hbm, ⟨3, _⟩ => ⟨S50000x8x128, .f32⟩
  | .hbm, ⟨4, _⟩ => ⟨S50000x128, .f32⟩
  | .hbm, ⟨5, _⟩ => ⟨S50000x128x8, .f32⟩
  | .hbm, ⟨6, _⟩ => ⟨S6400000x8, .f32⟩
  | .hbm, ⟨7, _⟩ => ⟨S6400000x1, .f32⟩
  | .local _ .vmem, ⟨0, _⟩ => ⟨S1000x128, .f32⟩
  | .local _ .vmem, ⟨1, _⟩ => ⟨S1000x128, .f32⟩
  | .local _ .vmem, ⟨2, _⟩ => ⟨S1000x8x128, .f32⟩
  | .local _ .vmem, ⟨3, _⟩ => ⟨S1000x8x128, .f32⟩
  | .local _ .vmem, ⟨4, _⟩ => ⟨S1000x128, .f32⟩
  | .local _ .vmem, ⟨5, _⟩ => ⟨S1000x128, .f32⟩
  | _, _ => ⟨S6400000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S6400000x1 : Shape := ⟨2, ![6400000, 1]⟩
abbrev S1x8 : Shape := ⟨2, ![1, 8]⟩
abbrev S6400000x8 : Shape := ⟨2, ![6400000, 8]⟩
abbrev S_ : Shape := ⟨0, ![]⟩

abbrev nBuf : Space → Nat
  | .hbm => 54
  | .vmem => 0
  | .smem => 0
  | _ => 0

abbrev bufTy : (tb : Table) → Fin (tcTables nBuf tb) → BufTy
  | .hbm, ⟨0, _⟩ => ⟨S6400000x1, .f32⟩
  | .hbm, ⟨1, _⟩ => ⟨S1x8, .f32⟩
  | .hbm, ⟨2, _⟩ => ⟨S6400000x8, .f32⟩
  | .hbm, ⟨3, _⟩ => ⟨S6400000x8, .f32⟩
  | .hbm, ⟨4, _⟩ => ⟨S6400000x8, .f32⟩
  | .hbm, ⟨5, _⟩ => ⟨S_, .f32⟩
  | .hbm, ⟨6, _⟩ => ⟨S6400000x8, .f32⟩
  | .hbm, ⟨7, _⟩ => ⟨S6400000x8, .i1⟩
  | .hbm, ⟨8, _⟩ => ⟨S_, .f32⟩
  | .hbm, ⟨9, _⟩ => ⟨S6400000x8, .f32⟩
  | .hbm, ⟨10, _⟩ => ⟨S6400000x8, .f32⟩
  | .hbm, ⟨11, _⟩ => ⟨S6400000x8, .f32⟩
  | .hbm, ⟨12, _⟩ => ⟨S_, .f32⟩
  | .hbm, ⟨13, _⟩ => ⟨S6400000x8, .f32⟩
  | .hbm, ⟨14, _⟩ => ⟨S6400000x8, .f32⟩
  | .hbm, ⟨15, _⟩ => ⟨S6400000x8, .f32⟩
  | .hbm, ⟨16, _⟩ => ⟨S_, .f32⟩
  | .hbm, ⟨17, _⟩ => ⟨S_, .f32⟩
  | .hbm, ⟨18, _⟩ => ⟨S6400000x8, .f32⟩
  | .hbm, ⟨19, _⟩ => ⟨S6400000x8, .f32⟩
  | .hbm, ⟨20, _⟩ => ⟨S6400000x8, .f32⟩
  | .hbm, ⟨21, _⟩ => ⟨S6400000x8, .f32⟩
  | .hbm, ⟨22, _⟩ => ⟨S_, .f32⟩
  | .hbm, ⟨23, _⟩ => ⟨S6400000x1, .f32⟩
  | .hbm, ⟨24, _⟩ => ⟨S6400000x1, .f32⟩
  | .hbm, ⟨25, _⟩ => ⟨S_, .f32⟩
  | .hbm, ⟨26, _⟩ => ⟨S6400000x1, .f32⟩
  | .hbm, ⟨27, _⟩ => ⟨S6400000x1, .f32⟩
  | .hbm, ⟨28, _⟩ => ⟨S_, .f32⟩
  | .hbm, ⟨29, _⟩ => ⟨S6400000x1, .f32⟩
  | .hbm, ⟨30, _⟩ => ⟨S6400000x1, .f32⟩
  | .hbm, ⟨31, _⟩ => ⟨S_, .f32⟩
  | .hbm, ⟨32, _⟩ => ⟨S6400000x1, .f32⟩
  | .hbm, ⟨33, _⟩ => ⟨S6400000x1, .f32⟩
  | .hbm, ⟨34, _⟩ => ⟨S_, .f32⟩
  | .hbm, ⟨35, _⟩ => ⟨S6400000x1, .f32⟩
  | .hbm, ⟨36, _⟩ => ⟨S6400000x1, .f32⟩
  | .hbm, ⟨37, _⟩ => ⟨S6400000x1, .f32⟩
  | .hbm, ⟨38, _⟩ => ⟨S_, .f32⟩
  | .hbm, ⟨39, _⟩ => ⟨S6400000x1, .f32⟩
  | .hbm, ⟨40, _⟩ => ⟨S6400000x1, .f32⟩
  | .hbm, ⟨41, _⟩ => ⟨S_, .f32⟩
  | .hbm, ⟨42, _⟩ => ⟨S6400000x1, .f32⟩
  | .hbm, ⟨43, _⟩ => ⟨S6400000x1, .f32⟩
  | .hbm, ⟨44, _⟩ => ⟨S6400000x1, .f32⟩
  | .hbm, ⟨45, _⟩ => ⟨S_, .f32⟩
  | .hbm, ⟨46, _⟩ => ⟨S6400000x1, .f32⟩
  | .hbm, ⟨47, _⟩ => ⟨S6400000x1, .i1⟩
  | .hbm, ⟨48, _⟩ => ⟨S_, .f32⟩
  | .hbm, ⟨49, _⟩ => ⟨S_, .f32⟩
  | .hbm, ⟨50, _⟩ => ⟨S6400000x1, .f32⟩
  | .hbm, ⟨51, _⟩ => ⟨S6400000x1, .f32⟩
  | .hbm, ⟨52, _⟩ => ⟨S6400000x8, .f32⟩
  | .hbm, ⟨53, _⟩ => ⟨S6400000x8, .f32⟩
  | _, _ => ⟨S6400000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_call0_v0 : Ref sig .tc := ⟨.hbm, 17, rfl⟩
abbrev main_call0_v1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩
abbrev main_cst_9 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_10 : Ref sig .tc := ⟨.hbm, 45, rfl⟩
abbrev main_v30 : Ref sig .tc := ⟨.hbm, 46, rfl⟩
abbrev main_v31 : Ref sig .tc := ⟨.hbm, 47, rfl⟩
abbrev main_cst_11 : Ref sig .tc := ⟨.hbm, 48, rfl⟩
abbrev main_call1_v0 : Ref sig .tc := ⟨.hbm, 49, rfl⟩
abbrev main_call1_v1 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩

abbrev nD : Nat := 1
abbrev τ : Topo := Topo.v7x

variable {F : FTy → Type} [FloatOps F]
-- ==== ChebyshevIdeal.lean ====
abbrev S6400000x1 : Shape := ⟨2, ![6400000, 1]⟩
abbrev S1x8 : Shape := ⟨2, ![1, 8]⟩
abbrev S_ : Shape := ⟨0, ![]⟩
abbrev S6400000x8 : Shape := ⟨2, ![6400000, 8]⟩

abbrev nBuf : Space → Nat
  | .hbm => 171
  | .vmem => 0
  | .smem => 0
  | _ => 0

abbrev hbmTy0_0 (i : Nat) : BufTy := match i % 128 with
  | 0 => ⟨S6400000x1, .f32⟩
  | 1 => ⟨S1x8, .f32⟩
  | 2 => ⟨S_, .f32⟩
  | 3 => ⟨S6400000x1, .f32⟩
  | 4 => ⟨S_, .f32⟩
  | 5 => ⟨S6400000x1, .f32⟩
  | 6 => ⟨S6400000x1, .f32⟩
  | 7 => ⟨S_, .f32⟩
  | 8 => ⟨S6400000x1, .f32⟩
  | 9 => ⟨S6400000x1, .f32⟩
  | 10 => ⟨S6400000x1, .f32⟩
  | 11 => ⟨S_, .f32⟩
  | 12 => ⟨S6400000x1, .f32⟩
  | 13 => ⟨S6400000x1, .f32⟩
  | 14 => ⟨S6400000x1, .f32⟩
  | 15 => ⟨S6400000x1, .f32⟩
  | 16 => ⟨S6400000x1, .f32⟩
  | 17 => ⟨S_, .f32⟩
  | 18 => ⟨S6400000x1, .f32⟩
  | 19 => ⟨S6400000x1, .f32⟩
  | 20 => ⟨S6400000x1, .f32⟩
  | 21 => ⟨S6400000x1, .f32⟩
  | 22 => ⟨S6400000x1, .f32⟩
  | 23 => ⟨S6400000x1, .f32⟩
  | 24 => ⟨S_, .f32⟩
  | 25 => ⟨S6400000x1, .f32⟩
  | 26 => ⟨S6400000x1, .f32⟩
  | 27 => ⟨S6400000x1, .f32⟩
  | 28 => ⟨S6400000x1, .f32⟩
  | 29 => ⟨S6400000x1, .f32⟩
  | 30 => ⟨S6400000x1, .f32⟩
  | 31 => ⟨S_, .f32⟩
  | 32 => ⟨S6400000x1, .f32⟩
  | 33 => ⟨S6400000x1, .f32⟩
  | 34 => ⟨S6400000x1, .f32⟩
  | 35 => ⟨S6400000x1, .f32⟩
  | 36 => ⟨S6400000x1, .f32⟩
  | 37 => ⟨S6400000x1, .f32⟩
  | 38 => ⟨S6400000x1, .f32⟩
  | 39 => ⟨S_, .f32⟩
  | 40 => ⟨S6400000x1, .f32⟩
  | 41 => ⟨S6400000x1, .f32⟩
  | 42 => ⟨S6400000x1, .f32⟩
  | 43 => ⟨S6400000x1, .f32⟩
  | 44 => ⟨S6400000x1, .f32⟩
  | 45 => ⟨S6400000x1, .f32⟩
  | 46 => ⟨S6400000x1, .f32⟩
  | 47 => ⟨S_, .f32⟩
  | 48 => ⟨S6400000x1, .f32⟩
  | 49 => ⟨S6400000x1, .f32⟩
  | 50 => ⟨S6400000x1, .f32⟩
  | 51 => ⟨S_, .f32⟩
  | 52 => ⟨S6400000x1, .f32⟩
  | 53 => ⟨S6400000x1, .f32⟩
  | 54 => ⟨S_, .f32⟩
  | 55 => ⟨S6400000x1, .f32⟩
  | 56 => ⟨S6400000x1, .f32⟩
  | 57 => ⟨S_, .f32⟩
  | 58 => ⟨S6400000x1, .f32⟩
  | 59 => ⟨S6400000x1, .f32⟩
  | 60 => ⟨S_, .f32⟩
  | 61 => ⟨S6400000x1, .f32⟩
  | 62 => ⟨S6400000x1, .f32⟩
  | 63 => ⟨S6400000x1, .f32⟩
  | 64 => ⟨S6400000x1, .f32⟩
  | 65 => ⟨S_, .f32⟩
  | 66 => ⟨S6400000x1, .f32⟩
  | 67 => ⟨S6400000x1, .f32⟩
  | 68 => ⟨S6400000x1, .f32⟩
  | 69 => ⟨S_, .f32⟩
  | 70 => ⟨S6400000x1, .f32⟩
  | 71 => ⟨S6400000x1, .f32⟩
  | 72 => ⟨S6400000x1, .f32⟩
  | 73 => ⟨S6400000x1, .f32⟩
  | 74 => ⟨S6400000x1, .f32⟩
  | 75 => ⟨S_, .f32⟩
  | 76 => ⟨S6400000x1, .f32⟩
  | 77 => ⟨S6400000x1, .f32⟩
  | 78 => ⟨S6400000x1, .f32⟩
  | 79 => ⟨S_, .f32⟩
  | 80 => ⟨S6400000x1, .f32⟩
  | 81 => ⟨S6400000x1, .f32⟩
  | 82 => ⟨S6400000x1, .f32⟩
  | 83 => ⟨S6400000x1, .f32⟩
  | 84 => ⟨S6400000x1, .f32⟩
  | 85 => ⟨S6400000x1, .f32⟩
  | 86 => ⟨S_, .f32⟩
  | 87 => ⟨S6400000x1, .f32⟩
  | 88 => ⟨S6400000x1, .f32⟩
  | 89 => ⟨S6400000x1, .f32⟩
  | 90 => ⟨S_, .f32⟩
  | 91 => ⟨S6400000x1, .f32⟩
  | 92 => ⟨S6400000x1, .f32⟩
  | 93 => ⟨S6400000x1, .f32⟩
  | 94 => ⟨S6400000x1, .f32⟩
  | 95 => ⟨S6400000x1, .f32⟩
  | 96 => ⟨S6400000x1, .f32⟩
  | 97 => ⟨S_, .f32⟩
  | 98 => ⟨S6400000x1, .f32⟩
  | 99 => ⟨S6400000x1, .f32⟩
  | 100 => ⟨S6400000x1, .f32⟩
  | 101 => ⟨S_, .f32⟩
  | 102 => ⟨S6400000x1, .f32⟩
  | 103 => ⟨S_, .f32⟩
  | 104 => ⟨S6400000x1, .f32⟩
  | 105 => ⟨S6400000x1, .f32⟩
  | 106 => ⟨S_, .f32⟩
  | 107 => ⟨S6400000x1, .f32⟩
  | 108 => ⟨S6400000x1, .f32⟩
  | 109 => ⟨S6400000x1, .f32⟩
  | 110 => ⟨S6400000x1, .f32⟩
  | 111 => ⟨S_, .f32⟩
  | 112 => ⟨S6400000x1, .f32⟩
  | 113 => ⟨S6400000x1, .f32⟩
  | 114 => ⟨S6400000x1, .f32⟩
  | 115 => ⟨S6400000x1, .f32⟩
  | 116 => ⟨S_, .f32⟩
  | 117 => ⟨S6400000x1, .f32⟩
  | 118 => ⟨S6400000x1, .f32⟩
  | 119 => ⟨S6400000x1, .f32⟩
  | 120 => ⟨S6400000x1, .f32⟩
  | 121 => ⟨S_, .f32⟩
  | 122 => ⟨S6400000x1, .f32⟩
  | 123 => ⟨S6400000x1, .f32⟩
  | 124 => ⟨S6400000x1, .f32⟩
  | 125 => ⟨S6400000x1, .f32⟩
  | 126 => ⟨S_, .f32⟩
  | 127 => ⟨S6400000x1, .f32⟩
  | _ => ⟨S6400000x1, .f32⟩

abbrev hbmTy0_1 (i : Nat) : BufTy := match i % 128 with
  | 0 => ⟨S6400000x1, .f32⟩
  | 1 => ⟨S6400000x1, .f32⟩
  | 2 => ⟨S6400000x1, .f32⟩
  | 3 => ⟨S_, .f32⟩
  | 4 => ⟨S6400000x1, .f32⟩
  | 5 => ⟨S6400000x1, .f32⟩
  | 6 => ⟨S6400000x1, .f32⟩
  | 7 => ⟨S6400000x1, .f32⟩
  | 8 => ⟨S_, .f32⟩
  | 9 => ⟨S6400000x1, .f32⟩
  | 10 => ⟨S6400000x1, .f32⟩
  | 11 => ⟨S_, .f32⟩
  | 12 => ⟨S6400000x1, .f32⟩
  | 13 => ⟨S6400000x1, .f32⟩
  | 14 => ⟨S_, .f32⟩
  | 15 => ⟨S6400000x1, .f32⟩
  | 16 => ⟨S6400000x1, .f32⟩
  | 17 => ⟨S_, .f32⟩
  | 18 => ⟨S6400000x1, .f32⟩
  | 19 => ⟨S6400000x1, .f32⟩
  | 20 => ⟨S_, .f32⟩
  | 21 => ⟨S6400000x1, .f32⟩
  | 22 => ⟨S6400000x1, .f32⟩
  | 23 => ⟨S6400000x1, .f32⟩
  | 24 => ⟨S_, .f32⟩
  | 25 => ⟨S6400000x1, .f32⟩
  | 26 => ⟨S6400000x1, .f32⟩
  | 27 => ⟨S_, .f32⟩
  | 28 => ⟨S6400000x1, .f32⟩
  | 29 => ⟨S6400000x1, .f32⟩
  | 30 => ⟨S6400000x1, .f32⟩
  | 31 => ⟨S_, .f32⟩
  | 32 => ⟨S6400000x1, .f32⟩
  | 33 => ⟨S6400000x1, .i1⟩
  | 34 => ⟨S_, .f32⟩
  | 35 => ⟨S_, .f32⟩
  | 36 => ⟨S6400000x1, .f32⟩
  | 37 => ⟨S6400000x1, .f32⟩
  | 38 => ⟨S6400000x8, .f32⟩
  | 39 => ⟨S6400000x8, .f32⟩
  | 40 => ⟨S6400000x8, .f32⟩
  | 41 => ⟨S6400000x8, .f32⟩
  | 42 => ⟨S6400000x8, .f32⟩
  | _ => ⟨S6400000x1, .f32⟩

abbrev hbmTy (i : Nat) : BufTy := match i / 128 with
  | 0 => hbmTy0_0 i
  | 1 => hbmTy0_1 i
  | _ => ⟨S6400000x1, .f32⟩

abbrev bufTy : (tb : Table) → Fin (tcTables nBuf tb) → BufTy
  | .hbm, ⟨i, _⟩ => hbmTy i
  | _, _ => ⟨S6400000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_cst_1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_3 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_5 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_6 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_cst_7 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_cst_8 : Ref sig .tc := ⟨.hbm, 51, rfl⟩
abbrev main_v40 : Ref sig .tc := ⟨.hbm, 52, rfl⟩
abbrev main_v41 : Ref sig .tc := ⟨.hbm, 53, rfl⟩
abbrev main_cst_9 : Ref sig .tc := ⟨.hbm, 54, rfl⟩
abbrev main_v42 : Ref sig .tc := ⟨.hbm, 55, rfl⟩
abbrev main_v43 : Ref sig .tc := ⟨.hbm, 56, rfl⟩
abbrev main_cst_10 : Ref sig .tc := ⟨.hbm, 57, rfl⟩
abbrev main_v44 : Ref sig .tc := ⟨.hbm, 58, rfl⟩
abbrev main_v45 : Ref sig .tc := ⟨.hbm, 59, rfl⟩
abbrev main_cst_11 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_cst_12 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_cst_13 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_cst_14 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_cst_15 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_cst_16 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_cst_17 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_cst_18 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_cst_19 : Ref sig .tc := ⟨.hbm, 101, rfl⟩
abbrev main_v79 : Ref sig .tc := ⟨.hbm, 102, rfl⟩
abbrev main_cst_20 : Ref sig .tc := ⟨.hbm, 103, rfl⟩
abbrev main_v80 : Ref sig .tc := ⟨.hbm, 104, rfl⟩
abbrev main_v81 : Ref sig .tc := ⟨.hbm, 105, rfl⟩
abbrev main_cst_21 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_cst_22 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_cst_23 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_cst_24 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_cst_25 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_cst_26 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_cst_27 : Ref sig .tc := ⟨.hbm, 136, rfl⟩
abbrev main_v106 : Ref sig .tc := ⟨.hbm, 137, rfl⟩
abbrev main_v107 : Ref sig .tc := ⟨.hbm, 138, rfl⟩
abbrev main_cst_28 : Ref sig .tc := ⟨.hbm, 139, rfl⟩
abbrev main_v108 : Ref sig .tc := ⟨.hbm, 140, rfl⟩
abbrev main_v109 : Ref sig .tc := ⟨.hbm, 141, rfl⟩
abbrev main_cst_29 : Ref sig .tc := ⟨.hbm, 142, rfl⟩
abbrev main_v110 : Ref sig .tc := ⟨.hbm, 143, rfl⟩
abbrev main_v111 : Ref sig .tc := ⟨.hbm, 144, rfl⟩
abbrev main_cst_30 : Ref sig .tc := ⟨.hbm, 145, rfl⟩
abbrev main_v112 : Ref sig .tc := ⟨.hbm, 146, rfl⟩
abbrev main_v113 : Ref sig .tc := ⟨.hbm, 147, rfl⟩
abbrev main_cst_31 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_cst_32 : Ref sig .tc := ⟨.hbm, 152, rfl⟩
abbrev main_v117 : Ref sig .tc := ⟨.hbm, 153, rfl⟩
abbrev main_v118 : Ref sig .tc := ⟨.hbm, 154, rfl⟩
abbrev main_cst_33 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_cst_34 : Ref sig .tc := ⟨.hbm, 159, rfl⟩
abbrev main_v122 : Ref sig .tc := ⟨.hbm, 160, rfl⟩
abbrev main_v123 : Ref sig .tc := ⟨.hbm, 161, rfl⟩
abbrev main_cst_35 : Ref sig .tc := ⟨.hbm, 162, rfl⟩
abbrev main_call0_v0 : Ref sig .tc := ⟨.hbm, 163, rfl⟩
abbrev main_call0_v1 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩
abbrev main_v127 : Ref sig .tc := ⟨.hbm, 168, rfl⟩
abbrev main_v128 : Ref sig .tc := ⟨.hbm, 169, rfl⟩
abbrev main_v129 : Ref sig .tc := ⟨.hbm, 170, rfl⟩

abbrev nD : Nat := 1
abbrev τ : Topo := Topo.v7x

variable {F : FTy → Type} [FloatOps F]
-- ==== Proof.KernelBlocks.lean ====
/-
  The two arrays the pallas_call leaves, as functions of the array it reads.

  The body works on a block of 1000 rows of the (50000, 128) array of distances. Both blocks it writes are functions of
  one element each: the cutoff block holds `cutE x` where the input block holds `x`, and the embedding block holds
  `embE n x` at its order axis' coordinate `n`. So the two results are these functions of the whole input array.
-/
module

public import proofs.«01_k».proof.Proof.Gen.KernelIdeal.Frame
public import Idealize.ShloMosaic.Lib.Pointwise
public import Idealize.ShloMosaic.Lib.Pipeline.Value
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Blocks

open Cert.KernelIdeal Cert.KernelIdeal.Gen

/-- The embedding block the body writes, from the block of distances it loads. -/
def embBlock (v : Vec Ideal S1000x128 .f32) : FVec Ideal S1000x8x128 .f32 :=
  k0_pay1 (k0_pay8 (k0_pay5 v)) (k0_pay11 (k0_pay5 v) (k0_pay6 v) (k0_pay7 v))
    (k0_pay17 (iota .tc S1x8x1 32 [1] iota_S1x8x1_d1_w32)
      (k0_pay14 (k0_pay10 (k0_pay6 v) (k0_pay7 v)) (iota .tc S1x8x1 32 [1] iota_S1x8x1_d1_w32)
        (k0_pay13 (k0_pay10 (k0_pay6 v) (k0_pay7 v)) (iota .tc S1x8x1 32 [1] iota_S1x8x1_d1_w32) k0_pay12))
      (k0_pay15 (iota .tc S1x8x1 32 [1] iota_S1x8x1_d1_w32)) (k0_pay16 (iota .tc S1x8x1 32 [1] iota_S1x8x1_d1_w32))
      (Scalar.ofBits .f32 0xBF800000#32))
    (k0_pay18 (iota .tc S1x8x1 32 [1] iota_S1x8x1_d1_w32))

/-- The kernel's cutoff of one distance: the body's cutoff block of a constant block. -/
def cutE (x : EReal) : EReal := k0_pay4 (F := Ideal) (fun _ => x) (ix2 0 0)

/-- The kernel's embedding of one distance at order `n + 1`: the body's embedding block of a constant block. -/
def embE (n : Fin 8) (x : EReal) : EReal := embBlock (fun _ => x) (ix3 0 n 0)

/-- The cutoff block at an index is the cutoff of the input block's element there. -/
theorem cutBlock_apply (v : Vec Ideal S1000x128 .f32) (r : Fin 1000) (l : Fin 128) :
    k0_pay4 v (ix2 r l) = cutE (v (ix2 r l)) := by
  unfold cutE
  pointwise [k0_pay4, k0_pay3, k0_pay2]

/-- The embedding block at an index is the embedding, at that order, of the input block's element there. -/
theorem embBlock_apply (v : Vec Ideal S1000x128 .f32) (r : Fin 1000) (n : Fin 8) (l : Fin 128) :
    embBlock v (ix3 r n l) = embE n (v (ix2 r l)) := by
  unfold embE
  pointwise [embBlock, k0_pay1, k0_pay2, k0_pay3, k0_pay4, k0_pay5, k0_pay6, k0_pay7, k0_pay8, k0_pay9, k0_pay10, k0_pay11,
    k0_pay12, k0_pay13, k0_pay14, k0_pay15, k0_pay16, k0_pay17, k0_pay18]

theorem zero2 : (![0, 0] : Fin 2 → Nat) = fun _ => 0 := funext fun a => by fin_cases a <;> rfl
theorem zero3 : (![0, 0, 0] : Fin 3 → Nat) = fun _ => 0 := funext fun a => by fin_cases a <;> rfl

/-- What the body leaves in the embedding's buffer is the embedding block of the loaded block. -/
theorem out0_1_eq (x : Vec Ideal S1000x128 .f32) : out0_1 x = embBlock x := by
  unfold_out out0_1
  rw [View.canon_unit_zero zero3, View.ld_unit_zero zero2]
  rfl

/-- What the body leaves in the cutoff's buffer is the cutoff block of the loaded block. -/
theorem out0_2_eq (x : Vec Ideal S1000x128 .f32) : out0_2 x = k0_pay4 x := by
  unfold_out out0_2
  rw [View.canon_unit_zero zero2, View.ld_unit_zero zero2]

/-- The three windows' blocks at point `t` start at row `1000 t` and at zero on the other axes. -/
theorem starts : ∀ t : Fin grid0.N, win0_0.index t 0 = t.val ∧ win0_0.index t 1 = 0
    ∧ win0_1.index t 0 = t.val ∧ win0_1.index t 1 = 0 ∧ win0_1.index t 2 = 0
    ∧ win0_2.index t 0 = t.val ∧ win0_2.index t 1 = 0 := by decide +kernel

variable (m : (ℓ : Loc nD τ sig) → Buf (Elt Ideal) ℓ) (c : Dev nD)

/-- The distances as the region finds them: the (50000, 128) array the host's reshape leaves. -/
abbrev dist2 : FVec Ideal S50000x128 .f32 := V m c main_v0

/-- The embedding array: at (row, order, lane) the embedding of the distance at (row, lane). -/
abbrev emb3 : FVec Ideal S50000x8x128 .f32 := fun i => embE (i 1) (dist2 m c (ix2 (i 0) (i 2)))

/-- The cutoff array: at every index the cutoff of the distance there. -/
abbrev cut2 : FVec Ideal S50000x128 .f32 := fun i => cutE (dist2 m c i)

/-- What point `t` writes back to the embedding array is block `t` of the embedding array. -/
theorem flushed_emb (t : Fin cfg0.N) :
    (dats m 0 c).flushed 1 t = ((cfg0.win 1).blk t).view.read (Elt Ideal) (emb3 m c) := by
  show (cfg0.win 1).cut (grid0.coords t) ((dats m 0 c).after 1 t) = _
  rw [after0_1, out0_1_eq]
  funext j
  show embBlock (iblk m c 0 t) j = _
  obtain ⟨r, n, l, rfl⟩ : ∃ r n l, j = ix3 r n l := ⟨j 0, j 1, j 2, by funext a; fin_cases a <;> rfl⟩
  rw [embBlock_apply]
  obtain ⟨-, -, -, b1, -, -, -⟩ := starts t
  show embE n (dist2 m c (((cfg0.win 0).blk t).view.emb (ix2 r l))) = embE ((((cfg0.win 1).blk t).view.emb (ix3 r n l)) 1)
    (dist2 m c (ix2 ((((cfg0.win 1).blk t).view.emb (ix3 r n l)) 0) ((((cfg0.win 1).blk t).view.emb (ix3 r n l)) 2)))
  congr 1
  apply Fin.ext; blk_simp [b1]

/-- What point `t` writes back to the cutoff array is block `t` of the cutoff array. -/
theorem flushed_cut (t : Fin cfg0.N) :
    (dats m 0 c).flushed 2 t = ((cfg0.win 2).blk t).view.read (Elt Ideal) (cut2 m c) := by
  show (cfg0.win 2).cut (grid0.coords t) ((dats m 0 c).after 2 t) = _
  rw [after0_2, out0_2_eq]
  funext j
  show k0_pay4 (iblk m c 0 t) j = _
  obtain ⟨r, l, rfl⟩ : ∃ r l, j = ix2 r l := ⟨j 0, j 1, by funext a; fin_cases a <;> rfl⟩
  rw [cutBlock_apply]
  rfl

/-- Row `i` of the embedding array lies in block `i / 1000`: the blocks tile the array. -/
theorem cover_emb (i : S50000x8x128.Idx) :
    ∃ t : Fin cfg0.N, (cfg0.win 1).flush t = true ∧ i ∈ ((cfg0.win 1).blk t).view.set := by
  have h0 : (i 0 : Nat) < 50000 := (i 0).isLt
  have h1 : (i 1 : Nat) < 8 := (i 1).isLt
  have h2 : (i 2 : Nat) < 128 := (i 2).isLt
  have hN : grid0.N = 50 := N_0
  have ht : (i 0 : Nat) / 1000 < grid0.N := by omega
  refine ⟨⟨(i 0 : Nat) / 1000, ht⟩, flush0_1 _, ?_⟩
  obtain ⟨-, -, b0, b1, b2, -, -⟩ := starts ⟨(i 0 : Nat) / 1000, ht⟩
  dsimp only at b0
  mem_blk [b0, b1, b2]
  omega

/-- Row `i` of the cutoff array lies in block `i / 1000`: the blocks tile the array. -/
theorem cover_cut (i : S50000x128.Idx) :
    ∃ t : Fin cfg0.N, (cfg0.win 2).flush t = true ∧ i ∈ ((cfg0.win 2).blk t).view.set := by
  have h0 : (i 0 : Nat) < 50000 := (i 0).isLt
  have h1 : (i 1 : Nat) < 128 := (i 1).isLt
  have hN : grid0.N = 50 := N_0
  have ht : (i 0 : Nat) / 1000 < grid0.N := by omega
  refine ⟨⟨(i 0 : Nat) / 1000, ht⟩, flush0_2 _, ?_⟩
  obtain ⟨-, -, -, -, -, d0, d1⟩ := starts ⟨(i 0 : Nat) / 1000, ht⟩
  dsimp only at d0
  mem_blk [d0, d1]
  omega

/-- After the last point the embedding array holds `emb3`. -/
theorem final_emb : (dats m 0 c).arrAt 1 cfg0.N = emb3 m c :=
  (dats m 0 c).arrAt_eq_of_cover 1 (emb3 m c) (fun t _ => flushed_emb m c t) cover_emb

/-- After the last point the cutoff array holds `cut2`. -/
theorem final_cut : (dats m 0 c).arrAt 2 cfg0.N = cut2 m c :=
  (dats m 0 c).arrAt_eq_of_cover 2 (cut2 m c) (fun t _ => flushed_cut m c t) cover_cut

end Cert.KernelIdeal.Blocks

end
-- ==== Proof.Literals.lean ====
/-
  The programs' f32 literals as real numbers.
-/
module

public import proofs.«01_k».proof.Proof.Gen.KernelIdeal.Frame
public import Idealize.ShloMosaic.Lib.Pointwise

@[expose] public section

noncomputable section

open Idealize.ShloMosaic

namespace Cert.Lit

/-- The pattern of 9.99999975e-06. -/
theorem lit_3727C5AC : Ideal.ofBits .f32 0x3727C5AC#32 = ((2748779 / 274877906944 : ℝ) : EReal) := by
  simp [Ideal.ofBits, Ideal.ieee, -EReal.coe_mul, -EReal.coe_neg]; norm_num

/-- The pattern of 0.00012582168. -/
theorem lit_3903EF00 : Ideal.ofBits .f32 0x3903EF00#32 = ((33775 / 268435456 : ℝ) : EReal) := by
  simp [Ideal.ofBits, Ideal.ieee, -EReal.coe_mul, -EReal.coe_neg]; norm_num

/-- The pattern of 0.0261274762. -/
theorem lit_3CD6094A : Ideal.ofBits .f32 0x3CD6094A#32 = ((7013541 / 268435456 : ℝ) : EReal) := by
  simp [Ideal.ofBits, Ideal.ieee, -EReal.coe_mul, -EReal.coe_neg]; norm_num

/-- The pattern of 0.5. -/
theorem lit_3F000000 : Ideal.ofBits .f32 0x3F000000#32 = ((1 / 2 : ℝ) : EReal) := by
  simp [Ideal.ofBits, Ideal.ieee, -EReal.coe_mul, -EReal.coe_neg]; norm_num

/-- The pattern of 0.598291278. -/
theorem lit_3F19299E : Ideal.ofBits .f32 0x3F19299E#32 = ((5018831 / 8388608 : ℝ) : EReal) := by
  simp [Ideal.ofBits, Ideal.ieee, -EReal.coe_mul, -EReal.coe_neg]; norm_num

/-- The pattern of 0.811741233. -/
theorem lit_3F4FCE46 : Ideal.ofBits .f32 0x3F4FCE46#32 = ((6809379 / 8388608 : ℝ) : EReal) := by
  simp [Ideal.ofBits, Ideal.ieee, -EReal.coe_mul, -EReal.coe_neg]; norm_num

/-- The pattern of 2. -/
theorem lit_40000000 : Ideal.ofBits .f32 0x40000000#32 = ((2 : ℝ) : EReal) := by
  simp [Ideal.ofBits, Ideal.ieee, -EReal.coe_mul, -EReal.coe_neg]; norm_num

/-- The pattern of 3.14159274. -/
theorem lit_40490FDB : Ideal.ofBits .f32 0x40490FDB#32 = ((13176795 / 4194304 : ℝ) : EReal) := by
  simp [Ideal.ofBits, Ideal.ieee, -EReal.coe_mul, -EReal.coe_neg]; norm_num

/-- The pattern of 4. -/
theorem lit_40800000 : Ideal.ofBits .f32 0x40800000#32 = ((4 : ℝ) : EReal) := by
  simp [Ideal.ofBits, Ideal.ieee, -EReal.coe_mul, -EReal.coe_neg]; norm_num

/-- The pattern of 5.1677103. -/
theorem lit_40A55DE2 : Ideal.ofBits .f32 0x40A55DE2#32 = ((5418737 / 1048576 : ℝ) : EReal) := by
  simp [Ideal.ofBits, Ideal.ieee, -EReal.coe_mul, -EReal.coe_neg]; norm_num

/-- The pattern of 6. -/
theorem lit_40C00000 : Ideal.ofBits .f32 0x40C00000#32 = ((6 : ℝ) : EReal) := by
  simp [Ideal.ofBits, Ideal.ieee, -EReal.coe_mul, -EReal.coe_neg]; norm_num

/-- The pattern of 7. -/
theorem lit_40E00000 : Ideal.ofBits .f32 0x40E00000#32 = ((7 : ℝ) : EReal) := by
  simp [Ideal.ofBits, Ideal.ieee, -EReal.coe_mul, -EReal.coe_neg]; norm_num

/-- The pattern of 8. -/
theorem lit_41000000 : Ideal.ofBits .f32 0x41000000#32 = ((8 : ℝ) : EReal) := by
  simp [Ideal.ofBits, Ideal.ieee, -EReal.coe_mul, -EReal.coe_neg]; norm_num

/-- The pattern of 16. -/
theorem lit_41800000 : Ideal.ofBits .f32 0x41800000#32 = ((16 : ℝ) : EReal) := by
  simp [Ideal.ofBits, Ideal.ieee, -EReal.coe_mul, -EReal.coe_neg]; norm_num

/-- The pattern of 21. -/
theorem lit_41A80000 : Ideal.ofBits .f32 0x41A80000#32 = ((21 : ℝ) : EReal) := by
  simp [Ideal.ofBits, Ideal.ieee, -EReal.coe_mul, -EReal.coe_neg]; norm_num

/-- The pattern of 24. -/
theorem lit_41C00000 : Ideal.ofBits .f32 0x41C00000#32 = ((24 : ℝ) : EReal) := by
  simp [Ideal.ofBits, Ideal.ieee, -EReal.coe_mul, -EReal.coe_neg]; norm_num

/-- The pattern of 28. -/
theorem lit_41E00000 : Ideal.ofBits .f32 0x41E00000#32 = ((28 : ℝ) : EReal) := by
  simp [Ideal.ofBits, Ideal.ieee, -EReal.coe_mul, -EReal.coe_neg]; norm_num

/-- The pattern of 32. -/
theorem lit_42000000 : Ideal.ofBits .f32 0x42000000#32 = ((32 : ℝ) : EReal) := by
  simp [Ideal.ofBits, Ideal.ieee, -EReal.coe_mul, -EReal.coe_neg]; norm_num

/-- The pattern of 48. -/
theorem lit_42400000 : Ideal.ofBits .f32 0x42400000#32 = ((48 : ℝ) : EReal) := by
  simp [Ideal.ofBits, Ideal.ieee, -EReal.coe_mul, -EReal.coe_neg]; norm_num

/-- The pattern of 64. -/
theorem lit_42800000 : Ideal.ofBits .f32 0x42800000#32 = ((64 : ℝ) : EReal) := by
  simp [Ideal.ofBits, Ideal.ieee, -EReal.coe_mul, -EReal.coe_neg]; norm_num

/-- The pattern of 80. -/
theorem lit_42A00000 : Ideal.ofBits .f32 0x42A00000#32 = ((80 : ℝ) : EReal) := by
  simp [Ideal.ofBits, Ideal.ieee, -EReal.coe_mul, -EReal.coe_neg]; norm_num

/-- The pattern of 128. -/
theorem lit_43000000 : Ideal.ofBits .f32 0x43000000#32 = ((128 : ℝ) : EReal) := by
  simp [Ideal.ofBits, Ideal.ieee, -EReal.coe_mul, -EReal.coe_neg]; norm_num

/-- The pattern of -0.00231580483. -/
theorem lit_BB17C4C2 : Ideal.ofBits .f32 0xBB17C4C2#32 = ((-4973153 / 2147483648 : ℝ) : EReal) := by
  simp [Ideal.ofBits, Ideal.ieee, -EReal.coe_mul, -EReal.coe_neg]; norm_num

/-- The pattern of -0.0776576623. -/
theorem lit_BD9F0AFB : Ideal.ofBits .f32 0xBD9F0AFB#32 = ((-10423035 / 134217728 : ℝ) : EReal) := by
  simp [Ideal.ofBits, Ideal.ieee, -EReal.coe_mul, -EReal.coe_neg]; norm_num

/-- The pattern of -0.190744758. -/
theorem lit_BE435298 : Ideal.ofBits .f32 0xBE435298#32 = ((-1600083 / 8388608 : ℝ) : EReal) := by
  simp [Ideal.ofBits, Ideal.ieee, -EReal.coe_mul, -EReal.coe_neg]; norm_num

/-- The pattern of -1. -/
theorem lit_BF800000 : Ideal.ofBits .f32 0xBF800000#32 = ((-1 : ℝ) : EReal) := by
  simp [Ideal.ofBits, Ideal.ieee, -EReal.coe_mul, -EReal.coe_neg]; norm_num

/-- The pattern of -1.64493394. -/
theorem lit_BFD28D32 : Ideal.ofBits .f32 0xBFD28D32#32 = ((-6899353 / 4194304 : ℝ) : EReal) := by
  simp [Ideal.ofBits, Ideal.ieee, -EReal.coe_mul, -EReal.coe_neg]; norm_num

/-- The pattern of -2.55007744. -/
theorem lit_C0233478 : Ideal.ofBits .f32 0xC0233478#32 = ((-1336975 / 524288 : ℝ) : EReal) := by
  simp [Ideal.ofBits, Ideal.ieee, -EReal.coe_mul, -EReal.coe_neg]; norm_num

/-- The pattern of -3.14159274. -/
theorem lit_C0490FDB : Ideal.ofBits .f32 0xC0490FDB#32 = ((-13176795 / 4194304 : ℝ) : EReal) := by
  simp [Ideal.ofBits, Ideal.ieee, -EReal.coe_mul, -EReal.coe_neg]; norm_num

/-- The pattern of -4. -/
theorem lit_C0800000 : Ideal.ofBits .f32 0xC0800000#32 = ((-4 : ℝ) : EReal) := by
  simp [Ideal.ofBits, Ideal.ieee, -EReal.coe_mul, -EReal.coe_neg]; norm_num

/-- The pattern of -8. -/
theorem lit_C1000000 : Ideal.ofBits .f32 0xC1000000#32 = ((-8 : ℝ) : EReal) := by
  simp [Ideal.ofBits, Ideal.ieee, -EReal.coe_mul, -EReal.coe_neg]; norm_num

/-- The pattern of -12. -/
theorem lit_C1400000 : Ideal.ofBits .f32 0xC1400000#32 = ((-12 : ℝ) : EReal) := by
  simp [Ideal.ofBits, Ideal.ieee, -EReal.coe_mul, -EReal.coe_neg]; norm_num

/-- The pattern of -32. -/
theorem lit_C2000000 : Ideal.ofBits .f32 0xC2000000#32 = ((-32 : ℝ) : EReal) := by
  simp [Ideal.ofBits, Ideal.ieee, -EReal.coe_mul, -EReal.coe_neg]; norm_num

/-- The pattern of -80. -/
theorem lit_C2A00000 : Ideal.ofBits .f32 0xC2A00000#32 = ((-80 : ℝ) : EReal) := by
  simp [Ideal.ofBits, Ideal.ieee, -EReal.coe_mul, -EReal.coe_neg]; norm_num

/-- The pattern of -192. -/
theorem lit_C3400000 : Ideal.ofBits .f32 0xC3400000#32 = ((-192 : ℝ) : EReal) := by
  simp [Ideal.ofBits, Ideal.ieee, -EReal.coe_mul, -EReal.coe_neg]; norm_num

/-- The pattern of the positive infinity is the top of the extended reals. -/
theorem lit_inf : Ideal.ofBits .f32 0x7F800000#32 = ⊤ := by
  simp [Ideal.ofBits, Ideal.ieee]

end Cert.Lit

end
-- ==== Proof.KernelReal.lean ====
/-
  The kernel's two functions of a distance, at a real distance, as real expressions.

  `sincR` is the kernel's polynomial in the square of the distance, `cosR` its polynomial in the distance less a half, and
  `cutR` its cutoff. The embedding at order `n + 1` is their product with the `n`-th Chebyshev polynomial of the second
  kind, which the kernel evaluates from a table of coefficients selected by the order.
-/
module

public import proofs.«01_k».proof.Proof.KernelBlocks
public import proofs.«01_k».proof.Proof.Literals

@[expose] public section

set_option maxRecDepth 16384

noncomputable section

open Idealize.ShloMosaic

namespace Cert.RealKernel

open Cert.KernelIdeal Cert.KernelIdeal.Gen Cert.KernelIdeal.Blocks Cert.Lit

/-- The kernel's polynomial for `sin (π x) / (π x)`, the f32 coefficients read exactly. -/
def sincR (x : ℝ) : ℝ :=
  (((((33775 / 268435456 * (x * x) + -4973153 / 2147483648) * (x * x) + 7013541 / 268435456) * (x * x) + -1600083 / 8388608) * (x * x)
    + 6809379 / 8388608) * (x * x) + -6899353 / 4194304) * (x * x) + 1

/-- The kernel's polynomial for `cos (π x)`, the f32 coefficients read exactly. -/
def cosR (x : ℝ) : ℝ :=
  (x - 1 / 2) * ((((-10423035 / 134217728 * ((x - 1 / 2) * (x - 1 / 2)) + 5018831 / 8388608) * ((x - 1 / 2) * (x - 1 / 2)) + -1336975 / 524288)
    * ((x - 1 / 2) * (x - 1 / 2)) + 5418737 / 1048576) * ((x - 1 / 2) * (x - 1 / 2)) + -13176795 / 4194304)

/-- The kernel's cutoff polynomial. -/
def cutR (x : ℝ) : ℝ := max (1 - x * x * x * (x * x * x) * (28 - 48 * x + 21 * (x * x))) 0

/-- The Chebyshev polynomials of the second kind, by their recurrence. -/
def chebU : ℕ → ℝ → ℝ
  | 0, _ => 1
  | 1, c => 2 * c
  | n + 2, c => 2 * c * chebU (n + 1) c - chebU n c

/-- The kernel's cutoff of a real distance. -/
theorem cutE_coe (x : ℝ) : cutE (x : EReal) = (cutR x : EReal) := by
  unfold cutE cutR
  pointwise [k0_pay4, k0_pay3, k0_pay2]
  rw [lit_42400000, lit_41E00000, lit_41A80000, ← EReal.coe_one, ← EReal.coe_zero]
  norm_cast

/-- The kernel's sinc polynomial times its cutoff, at a real distance. -/
theorem pay5_coe (x : ℝ) : k0_pay5 (F := Ideal) (fun _ => (x : EReal)) (ix2 0 0) = ((sincR x * cutR x : ℝ) : EReal) := by
  have hc := cutE_coe x
  unfold cutE at hc
  pointwise [k0_pay5, k0_pay3, k0_pay2]
  rw [hc, lit_3903EF00, lit_BB17C4C2, lit_3CD6094A, lit_BE435298, lit_3F4FCE46, lit_BFD28D32, ← EReal.coe_one]
  unfold sincR
  norm_cast

/-- The shifted distance, at a real distance. -/
theorem pay6_coe (x : ℝ) : k0_pay6 (F := Ideal) (fun _ => (x : EReal)) (ix2 0 0) = ((x - 1 / 2 : ℝ) : EReal) := by
  pointwise [k0_pay6, k0_pay2]
  rw [lit_3F000000]
  norm_cast

/-- The square of the shifted distance, at a real distance. -/
theorem pay7_coe (x : ℝ) :
    k0_pay7 (F := Ideal) (fun _ => (x : EReal)) (ix2 0 0) = (((x - 1 / 2) * (x - 1 / 2) : ℝ) : EReal) := by
  have h := pay6_coe x
  pointwise [k0_pay7]
  rw [h]
  norm_cast

/-- The kernel's cosine polynomial, the same at every order, at a real distance. -/
theorem pay9_coe (n : Fin 8) (x : ℝ) :
    k0_pay9 (F := Ideal) (k0_pay6 (fun _ => (x : EReal))) (k0_pay7 (fun _ => (x : EReal))) (ix3 0 n 0) = (cosR x : EReal) := by
  have h6 := pay6_coe x
  have h7 := pay7_coe x
  pointwise [k0_pay9]
  rw [h6, h7, lit_BD9F0AFB, lit_3F19299E, lit_C0233478, lit_40A55DE2, lit_C0490FDB]
  unfold cosR
  norm_cast

/-- The kernel's parity bit: set at the odd coordinates of the order axis. -/
theorem pay18_at (n : Fin 8) :
    k0_pay18 (iota .tc S1x8x1 32 [1] iota_S1x8x1_d1_w32) (ix3 0 n 0) = BitVec.ofNat 1 n.val := by
  pointwise [k0_pay18]
  revert n
  decide

/-- The kernel's embedding of a real distance at order `n + 1`. -/
theorem embE_coe (n : Fin 8) (x : ℝ) : embE n (x : EReal) = ((sincR x * cutR x * chebU n (cosR x) : ℝ) : EReal) := by
  have h5 := pay5_coe x
  have h9 := pay9_coe n x
  have h18 := pay18_at n
  unfold embE
  pointwise [embBlock, k0_pay1, k0_pay8, k0_pay10, k0_pay11, k0_pay12, k0_pay13, k0_pay14, k0_pay15, k0_pay16, k0_pay17]
  rw [h5, h9, h18]
  generalize cosR x = c
  generalize sincR x * cutR x = s
  fin_cases n <;>
    simp [Scalar.select, IntOp.cmpi, lit_40000000, lit_BF800000, lit_40800000, lit_C0800000, lit_41000000,
      lit_C1400000, lit_41800000, lit_40C00000, lit_C2000000, lit_42000000, lit_41C00000, lit_C2A00000, lit_42800000,
      lit_C1000000, lit_42A00000, lit_C3400000, lit_43000000, chebU, -EReal.coe_mul, ← EReal.coe_mul, ← EReal.coe_add]
  all_goals
    try simp only [← EReal.coe_one, ← EReal.coe_neg, ← EReal.coe_mul, ← EReal.coe_add, EReal.coe_eq_coe_iff]
    try ring

end Cert.RealKernel

end
-- ==== Proof.Reference.lean ====
/-
  The reference's two results at one entry, and where they are the kernel's exactly.

  `refCut` is the reference's cutoff of one distance and `refEmb` its embedding of one distance at one weight. Below `+∞`
  the reference's cutoff is the kernel's; where the cutoff vanishes both embeddings are zero.
-/
module

public import proofs.«01_k».proof.Proof.KernelReal
public import proofs.«01_k».proof.Proof.Gen.ReferenceIdeal.Run
public import Idealize.ShloMosaic.Lib.Quiescent

@[expose] public section

set_option maxRecDepth 16384

noncomputable section

open Idealize.ShloMosaic Idealize.ShloMosaic.TcCoe Idealize.SL.Sem

namespace Cert.RefRead

open Cert.Lit Cert.RealKernel Cert.KernelIdeal.Blocks

/-- The reference's cutoff polynomial of one distance, before negative values are set to zero. -/
def refPoly (x : EReal) : EReal :=
  1 - Ideal.ofBits .f32 0x41E00000#32 * Ideal.pow x (Ideal.ofBits .f32 0x40C00000#32)
    + Ideal.ofBits .f32 0x42400000#32 * Ideal.pow x (Ideal.ofBits .f32 0x40E00000#32)
    - Ideal.ofBits .f32 0x41A80000#32 * Ideal.pow x (Ideal.ofBits .f32 0x41000000#32)

/-- The reference's cutoff of one distance. -/
def refCut (x : EReal) : EReal := if 0 ≤ refPoly x then refPoly x else 0

/-- The reference's embedding of one distance at one weight. -/
def refEmb (x w : EReal) : EReal :=
  (if x * w = 0 then 1
    else Ideal.div (Ideal.sin (Ideal.ofBits .f32 0x40490FDB#32 * (x * w))) (Ideal.ofBits .f32 0x40490FDB#32 * (x * w)))
    * w * refCut x

section Run

open Cert.ReferenceIdeal Cert.ReferenceIdeal.Gen

variable (m : (ℓ : Loc nD τ sig) → Buf (Elt Ideal) ℓ) (ρ : Dev nD → PrngReg)

/-- The reference's run ends with `refEmb` and `refCut` of the arguments at every entry, and its arguments unchanged. -/
theorem run : θ_run defs (onTc (τ := τ) (main (F := Ideal))) ⟨m, fun _ => 0, ρ⟩ fun r => ∀ c : Dev nD,
      (∀ (e : Fin 6400000) (n : Fin 8), r.2.mem ((c.tc : Thread nD τ).loc main_v34) (ix2 e n)
        = refEmb (m ((c.tc : Thread nD τ).loc main_arg0) (ix2 e 0)) (m ((c.tc : Thread nD τ).loc main_arg1) (ix2 0 n)))
      ∧ (∀ e : Fin 6400000, r.2.mem ((c.tc : Thread nD τ).loc main_v32) (ix2 e 0)
        = refCut (m ((c.tc : Thread nD τ).loc main_arg0) (ix2 e 0)))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨fun e n => ?_, fun e => ?_, (h c).2.2⟩) (Cert.ReferenceIdeal.Value.run (F := Ideal) m ρ)
  · rw [(h c).1]
    clear h
    pointwise
    simp only [id_eq]
    pointwise
    rfl
  · rw [(h c).2.1]
    clear h
    pointwise
    simp only [id_eq]
    pointwise
    rfl

end Run

/-- At a real distance the reference's polynomial is the real one. -/
theorem refPoly_coe (x : ℝ) : refPoly (x : EReal) = ((1 - x * x * x * (x * x * x) * (28 - 48 * x + 21 * (x * x)) : ℝ) : EReal) := by
  unfold refPoly
  rw [lit_41E00000, lit_42400000, lit_41A80000, lit_40C00000, lit_40E00000, lit_41000000, ← EReal.coe_one]
  simp only [Ideal.pow_coe_coe]
  have h6 : Real.rpow x 6 = x ^ 6 := by
    show x ^ ((6 : ℕ) : ℝ) = x ^ 6
    exact Real.rpow_natCast x 6
  have h7 : Real.rpow x 7 = x ^ 7 := by
    show x ^ ((7 : ℕ) : ℝ) = x ^ 7
    exact Real.rpow_natCast x 7
  have h8 : Real.rpow x 8 = x ^ 8 := by
    show x ^ ((8 : ℕ) : ℝ) = x ^ 8
    exact Real.rpow_natCast x 8
  norm_num only [h6, h7, h8]
  simp only [← EReal.coe_mul, ← EReal.coe_add, ← EReal.coe_sub, EReal.coe_eq_coe_iff]
  ring

/-- At a real distance the reference's cutoff is the kernel's real cutoff. -/
theorem refCut_coe (x : ℝ) : refCut (x : EReal) = (cutR x : EReal) := by
  unfold refCut cutR
  rw [refPoly_coe]
  norm_cast
  split
  · next h => rw [max_eq_left h]
  · next h => rw [max_eq_right (le_of_not_ge h), EReal.coe_zero]

/-- At `-∞` the kernel's cutoff is zero. -/
theorem cutE_bot : cutE ⊥ = 0 := by
  unfold cutE
  pointwise [Cert.KernelIdeal.Gen.k0_pay4, Cert.KernelIdeal.Gen.k0_pay3, Cert.KernelIdeal.Gen.k0_pay2]
  rw [lit_42400000, lit_41E00000, lit_41A80000]
  have e : ((1 : ℝ) : EReal) - ⊤ = ⊥ := rfl
  rw [EReal.coe_mul_bot_of_pos (by norm_num), EReal.bot_mul_bot, EReal.top_mul_bot, EReal.bot_mul_bot,
    EReal.coe_mul_top_of_pos (by norm_num), EReal.coe_sub_bot, EReal.top_add_top, EReal.top_mul_top, ← EReal.coe_one, e]
  exact max_eq_right bot_le

/-- At `-∞` the reference's cutoff is zero. -/
theorem refCut_bot : refCut ⊥ = 0 := by
  have h : refPoly ⊥ = ⊥ := by
    unfold refPoly
    rw [lit_42400000, lit_41E00000, lit_41A80000, Ideal.pow_bot, Ideal.pow_bot, Ideal.pow_bot,
      EReal.coe_mul_bot_of_pos (by norm_num), EReal.coe_mul_bot_of_pos (by norm_num), EReal.coe_mul_bot_of_pos (by norm_num),
      EReal.add_bot, sub_eq_add_neg, EReal.bot_add]
  unfold refCut
  rw [h]
  exact if_neg (not_le.2 EReal.bot_lt_zero)

/-- Below `+∞` the kernel's cutoff is the reference's. -/
theorem cutE_eq (x : EReal) (hx : x < ⊤) : cutE x = refCut x := by
  induction x with
  | bot => rw [cutE_bot, refCut_bot]
  | top => exact absurd hx (lt_irrefl _)
  | coe x => rw [cutE_coe, refCut_coe]

/-- The cutoff vanishes from distance one on. -/
theorem cutR_eq_zero (x : ℝ) (hx : 1 ≤ |x|) : cutR x = 0 := by
  unfold cutR
  apply max_eq_right
  rcases le_abs.1 hx with h | h
  · have : 0 ≤ (x - 1) ^ 3 * (21 * x ^ 5 + 15 * x ^ 4 + 10 * x ^ 3 + 6 * x ^ 2 + 3 * x + 1) := by
      have : 0 ≤ x - 1 := by linarith
      have : 0 ≤ x := by linarith
      positivity
    nlinarith [this]
  · have h6 : 1 ≤ x ^ 6 := by
      have : 1 ≤ (-x) ^ 6 := one_le_pow₀ h
      nlinarith [this]
    nlinarith [mul_nonneg (sub_nonneg.2 h6) (show (0:ℝ) ≤ 28 - 48 * x + 21 * (x * x) by nlinarith)]

/-- At `-∞` the kernel's embedding is zero at every order. -/
theorem embE_bot (n : Fin 8) : embE n ⊥ = 0 := by
  have h4 := cutE_bot
  unfold cutE at h4
  have h5 : Cert.KernelIdeal.Gen.k0_pay5 (F := Ideal) (fun _ => (⊥ : EReal)) (ix2 0 0) = 0 := by
    pointwise [Cert.KernelIdeal.Gen.k0_pay5]
    rw [h4, mul_zero]
  have h11 : Cert.KernelIdeal.Gen.k0_pay11 (F := Ideal) (Cert.KernelIdeal.Gen.k0_pay5 (fun _ => (⊥ : EReal)))
      (Cert.KernelIdeal.Gen.k0_pay6 (fun _ => (⊥ : EReal))) (Cert.KernelIdeal.Gen.k0_pay7 (fun _ => (⊥ : EReal))) (ix3 0 n 0) = 0 := by
    pointwise [Cert.KernelIdeal.Gen.k0_pay11, Cert.KernelIdeal.Gen.k0_pay8]
    rw [h5, zero_mul]
  unfold embE
  pointwise [embBlock, Cert.KernelIdeal.Gen.k0_pay1, Cert.KernelIdeal.Gen.k0_pay8, Cert.KernelIdeal.Gen.k0_pay16, Cert.KernelIdeal.Gen.k0_pay17]
  rw [h5, h11]
  simp [Scalar.select]

/-- Where the distance is at least one in absolute value and below `+∞`, both embeddings are zero. -/
theorem embE_eq (n : Fin 8) (x w : EReal) (h1 : 1 ≤ max x (-x)) (hx : x < ⊤) : embE n x = refEmb x w := by
  unfold refEmb
  induction x with
  | bot => rw [embE_bot, refCut_bot, mul_zero]
  | top => exact absurd hx (lt_irrefl _)
  | coe x =>
    have h : 1 ≤ |x| := by
      rw [← EReal.coe_neg, ← EReal.coe_one] at h1
      rcases le_max_iff.1 h1 with h | h
      · exact le_abs.2 (Or.inl (EReal.coe_le_coe_iff.1 h))
      · exact le_abs.2 (Or.inr (EReal.coe_le_coe_iff.1 h))
    rw [embE_coe, refCut_coe, cutR_eq_zero x h]
    simp

end Cert.RefRead

end
-- ==== Proof.KernelRun.lean ====
/-
  The kernel's run: what its two results hold after the host's reshapes.

  The host reads the 6400000 distances as a (50000, 128) array, and after the pallas_call puts the order axis last and
  flattens both arrays again. Distance `e` sits at row `e / 128`, lane `e % 128` of the arrays between, on the way in and
  on the way out, so each result element is the kernel's function of its own distance.
-/
module

public import proofs.«01_k».proof.Proof.KernelBlocks
public import Idealize.ShloMosaic.Lib.StableHlo.Run

@[expose] public section

set_option maxRecDepth 16384

noncomputable section

open Idealize.ShloMosaic Idealize.ShloMosaic.TcCoe Idealize.SL.Sem

namespace Cert.KernelIdeal.Blocks

open Cert.KernelIdeal Cert.KernelIdeal.Gen Idealize.ShloMosaic.StableHlo

variable (m : (ℓ : Loc nD τ sig) → Buf (Elt Ideal) ℓ) (ρ : Dev nD → PrngReg) (c : Dev nD)

/-- The distances in launch memory. -/
abbrev dist : FVec Ideal S6400000x1 .f32 := m ((c : Thread nD τ).loc main_arg0)

/-- The array the region reads is the host's reshape of the distances. -/
theorem dist2_eq : dist2 m c = shapeCast S50000x128 (dist m c) shapeCasts_S6400000x1_S50000x128 := by
  unfold dist2 V V0
  simp only [hostOps0, List.flatten_cons, List.flatten_nil, List.append_nil]
  after_results_simp
  rfl

/-- The three windows read and write three different arrays. -/
theorem arrays_inj : Function.Injective (Pipeline.arrRef (cfgs 0).spec) := by
  show Function.Injective (Pipeline.arrRef spec0)
  decide

/-- The embedding result after the host's tail, over the arrays the region leaves. -/
theorem tail_emb : Pipeline.afterTail₀ cfgs (dats m) 0 (V0 m) [hostOps1] c main_v3
    = shapeCast S6400000x8 (transpose S50000x128x8 [0, 2, 1] (emb3 m c) transposes_S50000x8x128_S50000x128x8_0_2_1)
        shapeCasts_S50000x128x8_S6400000x8 := by
  unfold Pipeline.afterTail₀
  simp only [hostOps1, List.flatten_cons, List.flatten_nil, List.append_nil]
  after_results_simp
  rw [show (Pipeline.withArrays (cfgs 0).spec c (V0 m c) (fun w => (dats m 0 c).arrAt w (cfgs 0).N) (Proc.tc.devRef main_v1_0))
    = emb3 m c from (Pipeline.withArrays_arr (cfgs 0).spec arrays_inj c (V0 m c) _ 1).trans (final_emb m c)]
  rfl

/-- The cutoff result after the host's tail, over the array the region leaves. -/
theorem tail_cut : Pipeline.afterTail₀ cfgs (dats m) 0 (V0 m) [hostOps1] c main_v4
    = shapeCast S6400000x1 (cut2 m c) shapeCasts_S50000x128_S6400000x1 := by
  unfold Pipeline.afterTail₀
  simp only [hostOps1, List.flatten_cons, List.flatten_nil, List.append_nil]
  after_results_simp
  rw [show (Pipeline.withArrays (cfgs 0).spec c (V0 m c) (fun w => (dats m 0 c).arrAt w (cfgs 0).N) (Proc.tc.devRef main_v1_1))
    = cut2 m c from (Pipeline.withArrays_arr (cfgs 0).spec arrays_inj c (V0 m c) _ 2).trans (final_cut m c)]
  rfl

/-- The two results as functions of the distances: each element is the kernel's function of its own distance. -/
abbrev embRes : FVec Ideal S6400000x8 .f32 := fun i => embE (i 1) (dist m c (ix2 (i 0) 0))
abbrev cutRes : FVec Ideal S6400000x1 .f32 := fun i => cutE (dist m c i)

/-- A function of a distance and an order, taken on the reshaped distances, put order last and flattened: at element `e`
    and order `n` it is the function of distance `e` and `n`, whatever the function. -/
theorem flat_emb (f : Fin 8 → EReal → EReal) (d : FVec Ideal S6400000x1 .f32) :
    shapeCast S6400000x8 (transpose S50000x128x8 [0, 2, 1]
      ((fun i => f (i 1) (shapeCast S50000x128 d shapeCasts_S6400000x1_S50000x128 (ix2 (i 0) (i 2)))) : FVec Ideal S50000x8x128 .f32)
      transposes_S50000x8x128_S50000x128x8_0_2_1) shapeCasts_S50000x128x8_S6400000x8
    = fun i => f (i 1) (d (ix2 (i 0) 0)) := by
  funext i
  idx_vars i
  pointwise
  show f i1 (d (ix2 ⟨i0.val / 128 * 128 + i0.val % 128, _⟩ 0)) = f i1 (d (ix2 i0 0))
  congr 3
  exact Fin.ext (Nat.div_add_mod' i0.val 128)

/-- A function of a distance, taken on the reshaped distances and flattened: at element `e` it is the function of
    distance `e`, whatever the function. -/
theorem flat_cut (f : EReal → EReal) (d : FVec Ideal S6400000x1 .f32) :
    shapeCast S6400000x1 ((fun i => f (shapeCast S50000x128 d shapeCasts_S6400000x1_S50000x128 i)) : FVec Ideal S50000x128 .f32)
      shapeCasts_S50000x128_S6400000x1 = fun i => f (d i) := by
  exact congrArg (fun g : FVec Ideal S6400000x1 .f32 => (fun i => f (g i) : FVec Ideal S6400000x1 .f32))
    (shapeCast_shapeCast d shapeCasts_S6400000x1_S50000x128 shapeCasts_S50000x128_S6400000x1)

/-- The run: both results at the kernel's function of the distances, the arguments unchanged. -/
theorem run : θ_run defs (onTc (τ := τ) (main (F := Ideal))) ⟨m, fun _ => 0, ρ⟩ fun r => ∀ c : Dev nD,
      r.2.mem ((c.tc : Thread nD τ).loc main_v3) = embRes m c
      ∧ r.2.mem ((c.tc : Thread nD τ).loc main_v4) = cutRes m c
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨?_, ?_, ?_, ?_⟩) (run_main m ρ)
  · refine ((h c).2 main_v3 (Pipeline.mem_restRefs_of main_v3 (by decide) (by decide))).trans ((tail_emb m c).trans ?_)
    unfold emb3
    rw [dist2_eq]
    exact flat_emb embE (dist m c)
  · refine ((h c).2 main_v4 (Pipeline.mem_restRefs_of main_v4 (by decide) (by decide))).trans ((tail_cut m c).trans ?_)
    unfold cut2
    rw [dist2_eq]
    exact flat_cut cutE (dist m c)
  · exact ((h c).2 main_arg0 (Pipeline.mem_restRefs_of main_arg0 (by decide) (by decide))).trans (W_main_arg0 m (dats m) c)
  · exact ((h c).2 main_arg1 (Pipeline.mem_restRefs_of main_arg1 (by decide) (by decide))).trans (W_main_arg1 m (dats m) c)

end Cert.KernelIdeal.Blocks

end
-- ==== Proof.AgainstReference.lean ====
/-
  The kernel against the reference, where the two are equal: the cutoff at every distance below `+∞`, and the embedding
  where the cutoff vanishes.
-/
module

public import proofs.«01_k».proof.Defs
public import proofs.«01_k».proof.Proof.KernelRun
public import proofs.«01_k».proof.Proof.Reference
public import proofs.«01_k».proof.Proof.Gen.On_exact_part

@[expose] public section

set_option maxRecDepth 16384

noncomputable section

open Idealize.ShloMosaic Idealize.ShloMosaic.TcCoe Idealize.SL.Sem

namespace Cert.Against

open Cert.Lit Cert.KernelIdeal.Blocks Cert.RefRead

/-- The second mask says that the distance is below `+∞`. -/
theorem exact_cut (d : FVec Ideal Cert.On_exact_part.S6400000x1 .f32) (w : FVec Ideal Cert.On_exact_part.S1x8 .f32)
    (e : Fin 6400000) (h : (Cert.On_exact_part.fn (F := Ideal) d w).2 (ix2 e 0) = 1#1) : d (ix2 e 0) < ⊤ := by
  pointwise [Cert.On_exact_part.fn] at h
  rw [lit_inf] at h
  by_contra hn
  simp [hn] at h

/-- The first mask says that the distance is at least one in absolute value and below `+∞`. -/
theorem exact_emb (d : FVec Ideal Cert.On_exact_part.S6400000x1 .f32) (w : FVec Ideal Cert.On_exact_part.S1x8 .f32)
    (e : Fin 6400000) (n : Fin 8) (h : (Cert.On_exact_part.fn (F := Ideal) d w).1 (ix2 e n) = 1#1) :
    1 ≤ max (d (ix2 e 0)) (-d (ix2 e 0)) ∧ d (ix2 e 0) < ⊤ := by
  pointwise [Cert.On_exact_part.fn] at h
  rw [lit_inf] at h
  have ha : FloatOps.absf (F := Ideal) (φ := .f32) (d (ix2 e 0)) = max (d (ix2 e 0)) (-d (ix2 e 0)) := rfl
  rw [ha] at h
  by_cases h1 : 1 ≤ max (d (ix2 e 0)) (-d (ix2 e 0)) <;> by_cases h2 : d (ix2 e 0) < ⊤ <;> simp [h1, h2, IntOp.andi] at h ⊢

/-- The kernel against the reference under the mask `exact_part`. -/
theorem reference_exact : Cert.algebraic_KernelIdeal_ReferenceIdeal_on_exact_part := by
  intro m ρ m' ρ' _ hagree
  refine ⟨fun c i => embE (i 1) (dist m c (ix2 (i 0) 0)), fun c i => cutE (dist m c i), ?_, ?_⟩
  · refine (θ_run _ _ _).mono (fun r h c => ⟨fun i _ => ?_, fun i _ => ?_, (h c).2.2⟩) (Cert.KernelIdeal.Blocks.run m ρ)
    · rw [(h c).1]
    · rw [(h c).2.1]
  · refine (θ_run _ _ _).mono (fun r h c => ⟨fun i hi => ?_, fun i hi => ?_, (h c).2.2⟩) (Cert.RefRead.run m' ρ')
    · idx_vars i
      obtain ⟨h1, h2⟩ := exact_emb _ _ _ _ hi
      refine ((h c).1 i0 i1).trans ?_
      rw [(hagree c).1]
      exact (embE_eq _ _ _ h1 h2).symm
    · idx_vars i
      obtain rfl : i1 = 0 := Subsingleton.elim _ _
      have h2 := exact_cut _ _ _ hi
      refine ((h c).2.1 i0).trans ?_
      rw [(hagree c).1]
      exact (cutE_eq _ h2).symm

end Cert.Against

end
-- ==== Proof.Chebyshev.lean ====
/-
  The Chebyshev form of the reference at one entry, and its equality with the kernel.

  `chebyshev_reference` raises the distance to its powers and adds, builds the eight Chebyshev columns by their recurrence
  and joins them. At a real distance each stage is read as a real number; the product of the three is the kernel's
  embedding.
-/
module

public import proofs.«01_k».proof.Defs
public import proofs.«01_k».proof.Proof.KernelRun
public import proofs.«01_k».proof.Proof.Reference
public import proofs.«01_k».proof.Proof.Gen.ChebyshevIdeal.Read
public import proofs.«01_k».proof.Proof.Gen.On_below_infinity

@[expose] public section

set_option maxRecDepth 16384

noncomputable section

open Idealize.ShloMosaic Idealize.ShloMosaic.TcCoe Idealize.SL.Sem

namespace Cert.Chebyshev

open Cert.ChebyshevIdeal Cert.ChebyshevIdeal.Gen Cert.ChebyshevIdeal.Read Cert.Lit Cert.RealKernel Cert.RefRead
open Cert.KernelIdeal.Blocks (embE cutE)

variable (d : FVec Ideal S6400000x1 .f32) (e : Fin 6400000) (x : ℝ)

/-- The cutoff of the Chebyshev form is the reference's cutoff. -/
theorem cut_eq : val_main_v124 (F := Ideal) d (ix2 e 0) = refCut (d (ix2 e 0)) := by
  pointwise [val_main_v106, val_main_v107, val_main_v108, val_main_v109, val_main_v110, val_main_v111, val_main_v112,
      val_main_v113, val_main_v114, val_main_v115, val_main_v116, val_main_v117, val_main_v118, val_main_v119,
      val_main_v120, val_main_v121, val_main_v122, val_main_v123, val_main_v124, val_main_cst_27, val_main_cst_28,
      val_main_cst_29, val_main_cst_30, val_main_cst_31, val_main_cst_32, val_main_cst_33, val_main_cst_34,
      val_main_cst_35, val_main_call0_v0, val_main_call0_v1]
  simp only [id_eq]
  pointwise
  rfl

/-- The sum of even powers is the kernel's sinc polynomial. -/
theorem sinc_eq (hx : d (ix2 e 0) = (x : EReal)) : val_main_v39 (F := Ideal) d (ix2 e 0) = (sincR x : EReal) := by
  pointwise [val_main_v0, val_main_v1, val_main_v2, val_main_v3, val_main_v4, val_main_v5, val_main_v6, val_main_v7, val_main_v8,
      val_main_v9, val_main_v10, val_main_v11, val_main_v12, val_main_v13, val_main_v14, val_main_v15, val_main_v16,
      val_main_v17, val_main_v18, val_main_v19, val_main_v20, val_main_v21, val_main_v22, val_main_v23, val_main_v24,
      val_main_v25, val_main_v26, val_main_v27, val_main_v28, val_main_v29, val_main_v30, val_main_v31, val_main_v32,
      val_main_v33, val_main_v34, val_main_v35, val_main_v36, val_main_v37, val_main_v38, val_main_v39, val_main_cst,
      val_main_cst_1, val_main_cst_2, val_main_cst_3, val_main_cst_4, val_main_cst_5, val_main_cst_6, val_main_cst_7,
      val_main_cst_0]
  rw [hx, lit_3903EF00, lit_BB17C4C2, lit_3CD6094A, lit_BE435298, lit_3F4FCE46, lit_BFD28D32, ← EReal.coe_one]
  simp only [← EReal.coe_mul, ← EReal.coe_add, EReal.coe_eq_coe_iff]
  unfold sincR
  ring

/-- The sum of odd powers of the shifted distance is the kernel's cosine polynomial. -/
theorem cos_eq (hx : d (ix2 e 0) = (x : EReal)) : val_main_v78 (F := Ideal) d (ix2 e 0) = (cosR x : EReal) := by
  pointwise [val_main_v40, val_main_v41, val_main_v42, val_main_v43, val_main_v44, val_main_v45, val_main_v46, val_main_v47,
      val_main_v48, val_main_v49, val_main_v50, val_main_v51, val_main_v52, val_main_v53, val_main_v54, val_main_v55,
      val_main_v56, val_main_v57, val_main_v58, val_main_v59, val_main_v60, val_main_v61, val_main_v62, val_main_v63,
      val_main_v64, val_main_v65, val_main_v66, val_main_v67, val_main_v68, val_main_v69, val_main_v70, val_main_v71,
      val_main_v72, val_main_v73, val_main_v74, val_main_v75, val_main_v76, val_main_v77, val_main_v78, val_main_cst_8,
      val_main_cst_9, val_main_cst_10, val_main_cst_11, val_main_cst_12, val_main_cst_13, val_main_cst_14,
      val_main_cst_15, val_main_cst_16, val_main_cst_17, val_main_cst_18]
  rw [hx, lit_BD9F0AFB, lit_3F19299E, lit_C0233478, lit_40A55DE2, lit_C0490FDB, lit_3F000000]
  simp only [← EReal.coe_mul, ← EReal.coe_add, ← EReal.coe_sub, EReal.coe_eq_coe_iff]
  unfold cosR
  ring

/-- Column 0 is the constant one. -/
theorem col0 : val_main_v79 (F := Ideal) (ix2 e 0) = (chebU 0 (cosR x) : EReal) := by
  pointwise [val_main_v79, val_main_cst_19]
  simp [chebU]

/-- Column 1 is twice the cosine. -/
theorem col1 (hx : d (ix2 e 0) = (x : EReal)) : val_main_v81 (F := Ideal) d (ix2 e 0) = (chebU 1 (cosR x) : EReal) := by
  have hc := cos_eq d e x hx
  pointwise [val_main_v80, val_main_v81, val_main_cst_20]
  rw [hc, lit_40000000, ← EReal.coe_mul]
  rfl

/-- One step of the recurrence. -/
theorem step (n : ℕ) (c : ℝ) (a b : EReal) (ha : a = (chebU (n + 1) c : EReal)) (hb : b = (chebU n c : EReal)) :
    ((2 : ℝ) : EReal) * (c : EReal) * a - b = (chebU (n + 2) c : EReal) := by
  rw [ha, hb, ← EReal.coe_mul, ← EReal.coe_mul, ← EReal.coe_sub]
  rfl

/-- Column 2 by the recurrence. -/
theorem col2 (hx : d (ix2 e 0) = (x : EReal)) : val_main_v85 (F := Ideal) d (ix2 e 0) = (chebU 2 (cosR x) : EReal) := by
  have hc := cos_eq d e x hx
  pointwise [val_main_v82, val_main_v83, val_main_v84, val_main_v85, val_main_cst_21]
  rw [hc, lit_40000000]
  exact step 0 _ _ _ (col1 d e x hx) (col0 e x)

/-- Column 3 by the recurrence. -/
theorem col3 (hx : d (ix2 e 0) = (x : EReal)) : val_main_v89 (F := Ideal) d (ix2 e 0) = (chebU 3 (cosR x) : EReal) := by
  have hc := cos_eq d e x hx
  pointwise [val_main_v86, val_main_v87, val_main_v88, val_main_v89, val_main_cst_22]
  rw [hc, lit_40000000]
  exact step 1 _ _ _ (col2 d e x hx) (col1 d e x hx)

/-- Column 4 by the recurrence. -/
theorem col4 (hx : d (ix2 e 0) = (x : EReal)) : val_main_v93 (F := Ideal) d (ix2 e 0) = (chebU 4 (cosR x) : EReal) := by
  have hc := cos_eq d e x hx
  pointwise [val_main_v90, val_main_v91, val_main_v92, val_main_v93, val_main_cst_23]
  rw [hc, lit_40000000]
  exact step 2 _ _ _ (col3 d e x hx) (col2 d e x hx)

/-- Column 5 by the recurrence. -/
theorem col5 (hx : d (ix2 e 0) = (x : EReal)) : val_main_v97 (F := Ideal) d (ix2 e 0) = (chebU 5 (cosR x) : EReal) := by
  have hc := cos_eq d e x hx
  pointwise [val_main_v94, val_main_v95, val_main_v96, val_main_v97, val_main_cst_24]
  rw [hc, lit_40000000]
  exact step 3 _ _ _ (col4 d e x hx) (col3 d e x hx)

/-- Column 6 by the recurrence. -/
theorem col6 (hx : d (ix2 e 0) = (x : EReal)) : val_main_v101 (F := Ideal) d (ix2 e 0) = (chebU 6 (cosR x) : EReal) := by
  have hc := cos_eq d e x hx
  pointwise [val_main_v98, val_main_v99, val_main_v100, val_main_v101, val_main_cst_25]
  rw [hc, lit_40000000]
  exact step 4 _ _ _ (col5 d e x hx) (col4 d e x hx)

/-- Column 7 by the recurrence. -/
theorem col7 (hx : d (ix2 e 0) = (x : EReal)) : val_main_v105 (F := Ideal) d (ix2 e 0) = (chebU 7 (cosR x) : EReal) := by
  have hc := cos_eq d e x hx
  pointwise [val_main_v102, val_main_v103, val_main_v104, val_main_v105, val_main_cst_26]
  rw [hc, lit_40000000]
  exact step 5 _ _ _ (col6 d e x hx) (col5 d e x hx)

/-- The embedding of the Chebyshev form at a real distance is the kernel's. -/
theorem emb_eq (n : Fin 8) (hx : d (ix2 e 0) = (x : EReal)) :
    val_main_v129 (F := Ideal) d (ix2 e n) = embE n (x : EReal) := by
  have hs := sinc_eq d e x hx
  have hk := cut_eq d e
  rw [hx, refCut_coe] at hk
  rw [embE_coe]
  fin_cases n <;>
    (pointwise [val_main_v129, val_main_v128, val_main_v127, val_main_v126, val_main_v125]
     rw [hs, hk])
  · rw [col0 e x, ← EReal.coe_mul, ← EReal.coe_mul]; congr 1; ring
  · rw [col1 d e x hx, ← EReal.coe_mul, ← EReal.coe_mul]; congr 1; ring
  · rw [col2 d e x hx, ← EReal.coe_mul, ← EReal.coe_mul]; congr 1; ring
  · rw [col3 d e x hx, ← EReal.coe_mul, ← EReal.coe_mul]; congr 1; ring
  · rw [col4 d e x hx, ← EReal.coe_mul, ← EReal.coe_mul]; congr 1; ring
  · rw [col5 d e x hx, ← EReal.coe_mul, ← EReal.coe_mul]; congr 1; ring
  · rw [col6 d e x hx, ← EReal.coe_mul, ← EReal.coe_mul]; congr 1; ring
  · rw [col7 d e x hx, ← EReal.coe_mul, ← EReal.coe_mul]; congr 1; ring

section Run

variable (m : (ℓ : Loc nD τ sig) → Buf (Elt Ideal) ℓ) (ρ : Dev nD → PrngReg)

/-- The Chebyshev form's run ends with its two stages of the distances, and its arguments unchanged. -/
theorem run : θ_run defs (onTc (τ := τ) (main (F := Ideal))) ⟨m, fun _ => 0, ρ⟩ fun r => ∀ c : Dev nD,
      r.2.mem ((c.tc : Thread nD τ).loc main_v129) = val_main_v129 (F := Ideal) (m ((c.tc : Thread nD τ).loc main_arg0))
      ∧ r.2.mem ((c.tc : Thread nD τ).loc main_v124) = val_main_v124 (F := Ideal) (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (val_main_v129_eq _), (h c).2.1.trans (val_main_v124_eq _), (h c).2.2⟩)
    (Cert.ChebyshevIdeal.Value.run (F := Ideal) m ρ)

end Run

/-- At `-∞` both embeddings are zero. -/
theorem emb_bot (n : Fin 8) (hx : d (ix2 e 0) = (⊥ : EReal)) : val_main_v129 (F := Ideal) d (ix2 e n) = embE n ⊥ := by
  have hk := cut_eq d e
  rw [hx, refCut_bot] at hk
  pointwise [val_main_v129, val_main_v128]
  rw [hk, mul_zero, embE_bot]

/-- Below `+∞` the embedding of the Chebyshev form is the kernel's. -/
theorem emb_below (n : Fin 8) (y : EReal) (hx : d (ix2 e 0) = y) (hy : y < ⊤) :
    val_main_v129 (F := Ideal) d (ix2 e n) = embE n y := by
  induction y with
  | bot => exact emb_bot d e n hx
  | top => exact absurd hy (lt_irrefl _)
  | coe x => exact emb_eq d e x n hx

/-- The first mask says that the distance is below `+∞`. -/
theorem below_emb (d : FVec Ideal Cert.On_below_infinity.S6400000x1 .f32) (w : FVec Ideal Cert.On_below_infinity.S1x8 .f32)
    (e : Fin 6400000) (n : Fin 8) (h : (Cert.On_below_infinity.fn (F := Ideal) d w).1 (ix2 e n) = 1#1) : d (ix2 e 0) < ⊤ := by
  pointwise [Cert.On_below_infinity.fn] at h
  rw [lit_inf] at h
  by_contra hn
  simp [hn] at h

/-- The second mask says that the distance is below `+∞`. -/
theorem below_cut (d : FVec Ideal Cert.On_below_infinity.S6400000x1 .f32) (w : FVec Ideal Cert.On_below_infinity.S1x8 .f32)
    (e : Fin 6400000) (h : (Cert.On_below_infinity.fn (F := Ideal) d w).2 (ix2 e 0) = 1#1) : d (ix2 e 0) < ⊤ := by
  pointwise [Cert.On_below_infinity.fn] at h
  rw [lit_inf] at h
  by_contra hn
  simp [hn] at h

/-- The kernel against the Chebyshev form at every distance below `+∞`. -/
theorem chebyshev_exact : Cert.algebraic_KernelIdeal_ChebyshevIdeal_on_below_infinity := by
  intro m ρ m' ρ' _ hagree
  refine ⟨fun c i => embE (i 1) (Cert.KernelIdeal.Blocks.dist m c (ix2 (i 0) 0)),
    fun c i => cutE (Cert.KernelIdeal.Blocks.dist m c i), ?_, ?_⟩
  · refine (θ_run _ _ _).mono (fun r h c => ⟨fun i _ => ?_, fun i _ => ?_, (h c).2.2⟩) (Cert.KernelIdeal.Blocks.run m ρ)
    · rw [(h c).1]
    · rw [(h c).2.1]
  · refine (θ_run _ _ _).mono (fun r h c => ⟨fun i hi => ?_, fun i hi => ?_, (h c).2.2⟩) (run m' ρ')
    · idx_vars i
      have h2 := below_emb _ _ _ _ hi
      refine (congrFun (h c).1 _).trans ?_
      rw [(hagree c).1]
      exact emb_below _ i0 i1 _ rfl h2
    · idx_vars i
      obtain rfl : i1 = 0 := Subsingleton.elim _ _
      have h2 := below_cut _ _ _ hi
      refine (congrFun (h c).2.1 _).trans ?_
      rw [(hagree c).1]
      refine (cut_eq _ i0).trans ?_
      exact (cutE_eq _ h2).symm

end Cert.Chebyshev

end
-- ==== Proof.Trig.lean ====
/-
  Sine and cosine against their Taylor sums, and the Chebyshev polynomials at a cosine.
-/
module

public import proofs.«01_k».proof.Proof.KernelReal

@[expose] public section

noncomputable section

namespace Cert.Trig

open Cert.RealKernel

/-- The first `k` terms of the sine's Taylor series. -/
def sinT (k : ℕ) (t : ℝ) : ℝ := ∑ j ∈ Finset.range k, (-1) ^ j * t ^ (2 * j + 1) / ((2 * j + 1).factorial : ℝ)

/-- The first `k` terms of the cosine's Taylor series. -/
def cosT (k : ℕ) (t : ℝ) : ℝ := ∑ j ∈ Finset.range k, (-1) ^ j * t ^ (2 * j) / ((2 * j).factorial : ℝ)

/-- The exponential's Taylor sum at an imaginary number has these two sums as its parts. -/
theorem exp_sum (k : ℕ) (t : ℝ) :
    ∑ m ∈ Finset.range (2 * k), ((t : ℂ) * Complex.I) ^ m / (m.factorial : ℂ) = (cosT k t : ℂ) + (sinT k t : ℂ) * Complex.I := by
  induction k with
  | zero => simp [cosT, sinT]
  | succ k ih =>
    have e1 : ((t : ℂ) * Complex.I) ^ (2 * k) = (-1) ^ k * (t : ℂ) ^ (2 * k) := by
      rw [mul_pow, pow_mul Complex.I, Complex.I_sq]; ring
    have e2 : ((t : ℂ) * Complex.I) ^ (2 * k + 1) = (-1) ^ k * (t : ℂ) ^ (2 * k + 1) * Complex.I := by
      rw [pow_succ, e1]; ring
    rw [show 2 * (k + 1) = 2 * k + 1 + 1 by ring, Finset.sum_range_succ, Finset.sum_range_succ, ih, e1, e2]
    unfold cosT sinT
    rw [Finset.sum_range_succ, Finset.sum_range_succ]
    push_cast
    ring

/-- The exponential at an imaginary number against the two sums. -/
theorem exp_bound (k : ℕ) (t : ℝ) (h : |t| / ((2 * k).succ : ℝ) ≤ 1 / 2) :
    ‖Complex.exp ((t : ℂ) * Complex.I) - ((cosT k t : ℂ) + (sinT k t : ℂ) * Complex.I)‖
      ≤ |t| ^ (2 * k) / ((2 * k).factorial : ℝ) * 2 := by
  have hn : ‖(t : ℂ) * Complex.I‖ = |t| := by simp
  have := Complex.exp_bound' (x := (t : ℂ) * Complex.I) (n := 2 * k) (by rw [hn]; exact h)
  rwa [exp_sum, hn] at this

/-- The sine against its Taylor sum. -/
theorem sin_bound (k : ℕ) (t : ℝ) (h : |t| / ((2 * k).succ : ℝ) ≤ 1 / 2) :
    |Real.sin t - sinT k t| ≤ |t| ^ (2 * k) / ((2 * k).factorial : ℝ) * 2 := by
  refine le_trans ?_ (exp_bound k t h)
  refine le_trans (le_of_eq ?_) (Complex.abs_im_le_norm _)
  congr 1
  simp [Complex.exp_ofReal_mul_I_im]

/-- The cosine against its Taylor sum. -/
theorem cos_bound (k : ℕ) (t : ℝ) (h : |t| / ((2 * k).succ : ℝ) ≤ 1 / 2) :
    |Real.cos t - cosT k t| ≤ |t| ^ (2 * k) / ((2 * k).factorial : ℝ) * 2 := by
  refine le_trans ?_ (exp_bound k t h)
  refine le_trans (le_of_eq ?_) (Complex.abs_re_le_norm _)
  congr 1
  simp [Complex.exp_ofReal_mul_I_re]

/-- The sine of a multiple is the sine times the Chebyshev polynomial of the cosine. -/
theorem chebU_mul_sin (t : ℝ) (n : ℕ) : chebU n (Real.cos t) * Real.sin t = Real.sin (((n + 1 : ℕ) : ℝ) * t)
    ∧ chebU (n + 1) (Real.cos t) * Real.sin t = Real.sin (((n + 2 : ℕ) : ℝ) * t) := by
  induction n with
  | zero =>
    refine ⟨by simp [chebU], ?_⟩
    simp only [chebU]
    rw [show (((0 + 2 : ℕ) : ℝ)) * t = 2 * t by push_cast; ring, Real.sin_two_mul]
    ring
  | succ n ih =>
    refine ⟨ih.2, ?_⟩
    have e : Real.sin (((n + 1 + 2 : ℕ) : ℝ) * t) = 2 * Real.cos t * Real.sin (((n + 2 : ℕ) : ℝ) * t) - Real.sin (((n + 1 : ℕ) : ℝ) * t) := by
      have a := Real.sin_add (((n + 2 : ℕ) : ℝ) * t) t
      have b := Real.sin_sub (((n + 2 : ℕ) : ℝ) * t) t
      rw [show ((n + 1 + 2 : ℕ) : ℝ) * t = ((n + 2 : ℕ) : ℝ) * t + t by push_cast; ring, a,
        show ((n + 1 : ℕ) : ℝ) * t = ((n + 2 : ℕ) : ℝ) * t - t by push_cast; ring, b]
      ring
    rw [e, ← ih.1, ← ih.2]
    simp only [chebU]
    ring

/-- Two consecutive Chebyshev polynomials at a cosine differ by a cosine of a multiple. -/
theorem chebU_step (t : ℝ) (n : ℕ) :
    chebU (n + 1) (Real.cos t) = Real.cos t * chebU n (Real.cos t) + Real.cos (((n + 1 : ℕ) : ℝ) * t)
    ∧ Real.cos t * chebU (n + 1) (Real.cos t) - chebU n (Real.cos t) = Real.cos (((n + 2 : ℕ) : ℝ) * t) := by
  induction n with
  | zero =>
    refine ⟨by simp [chebU]; ring, ?_⟩
    simp only [chebU]
    rw [show (((0 + 2 : ℕ) : ℝ)) * t = 2 * t by push_cast; ring, Real.cos_two_mul]
    ring
  | succ n ih =>
    have e : Real.cos (((n + 1 + 2 : ℕ) : ℝ) * t) = 2 * Real.cos t * Real.cos (((n + 2 : ℕ) : ℝ) * t) - Real.cos (((n + 1 : ℕ) : ℝ) * t) := by
      have a := Real.cos_add (((n + 2 : ℕ) : ℝ) * t) t
      have b := Real.cos_sub (((n + 2 : ℕ) : ℝ) * t) t
      rw [show ((n + 1 + 2 : ℕ) : ℝ) * t = ((n + 2 : ℕ) : ℝ) * t + t by push_cast; ring, a,
        show ((n + 1 : ℕ) : ℝ) * t = ((n + 2 : ℕ) : ℝ) * t - t by push_cast; ring, b]
      ring
    have r : chebU (n + 1 + 1) (Real.cos t) = 2 * Real.cos t * chebU (n + 1) (Real.cos t) - chebU n (Real.cos t) := rfl
    have e1 : ((n + 1 + 1 : ℕ) : ℝ) = ((n + 2 : ℕ) : ℝ) := rfl
    rw [e1, e, r]
    obtain ⟨h1, h2⟩ := ih
    constructor
    · linear_combination h2
    · linear_combination 2 * Real.cos t * h2 - h1

/-- The Chebyshev polynomial at a cosine is bounded by its value at one. -/
theorem abs_chebU_cos (t : ℝ) (n : ℕ) : |chebU n (Real.cos t)| ≤ n + 1 := by
  induction n with
  | zero => simp [chebU]
  | succ n ih =>
    rw [(chebU_step t n).1]
    refine (abs_add_le _ _).trans ?_
    rw [abs_mul]
    have h1 := Real.abs_cos_le_one t
    have h2 := Real.abs_cos_le_one (((n + 1 : ℕ) : ℝ) * t)
    push_cast at h2 ⊢
    nlinarith [abs_nonneg (chebU n (Real.cos t))]

/-- The difference of a Chebyshev polynomial at two points, up to the degree the kernel reaches. -/
theorem chebU_sub (n : ℕ) (hn : n ≤ 7) (a b : ℝ) :
    chebU n a - chebU n b = 2 * (a - b) * ∑ k ∈ Finset.range n, chebU k a * chebU (n - 1 - k) b := by
  interval_cases n <;> simp [Finset.sum_range_succ, chebU] <;> ring

/-- The Chebyshev polynomial moves by at most this much between a cosine and a point near it. -/
theorem abs_chebU_sub (t a : ℝ) (h : |a - Real.cos t| ≤ 5 / 10 ^ 8) (n : ℕ) (hn : n ≤ 7) :
    |chebU n a - chebU n (Real.cos t)| ≤ 8401 / 10 ^ 9 := by
  induction n using Nat.strong_induction_on with
  | _ n ih =>
    have hk : ∀ k ∈ Finset.range n, |chebU k a * chebU (n - 1 - k) (Real.cos t)|
        ≤ ((k : ℝ) + 1 + 8401 / 10 ^ 9) * (((n - 1 - k : ℕ) : ℝ) + 1) := by
      intro k hk
      have hk' := Finset.mem_range.1 hk
      have h1 := ih k hk' (by omega)
      have h2 := abs_chebU_cos t k
      have h3 := abs_chebU_cos t (n - 1 - k)
      have h4 : |chebU k a| ≤ (k : ℝ) + 1 + 8401 / 10 ^ 9 := by
        have := abs_add_le (chebU k a - chebU k (Real.cos t)) (chebU k (Real.cos t))
        rw [sub_add_cancel] at this
        linarith
      rw [abs_mul]
      exact mul_le_mul h4 h3 (abs_nonneg _) (by positivity)
    have hs := (Finset.abs_sum_le_sum_abs _ _).trans (Finset.sum_le_sum hk)
    rw [chebU_sub n hn, abs_mul, abs_mul, abs_two]
    have hb : ∑ k ∈ Finset.range n, ((k : ℝ) + 1 + 8401 / 10 ^ 9) * (((n - 1 - k : ℕ) : ℝ) + 1) ≤ 8401 / 100 := by
      interval_cases n <;> simp [Finset.sum_range_succ] <;> norm_num
    have := mul_le_mul h (hs.trans hb) (abs_nonneg _) (by norm_num)
    linarith

end Cert.Trig

end
-- ==== Proof.Approx.lean ====
/-
  The kernel's two polynomials against the functions they stand for, on the unit interval.

  The difference of a polynomial and a Taylor sum is a polynomial; that it is nonnegative after adding the tolerance is
  shown on subintervals `[a, b]` by writing it in the products `(u - a)^k (b - u)^(n-k)` with nonnegative coefficients.
-/
module

public import proofs.«01_k».proof.Proof.Trig

@[expose] public section

set_option maxRecDepth 16384

noncomputable section

namespace Cert.Approx

open Cert.RealKernel Cert.Trig

/-- The f32 number nearest `π`, which the reference multiplies by. -/
def piF : ℝ := 13176795 / 4194304

/-- The kernel's sinc polynomial less the Taylor sum, in the square of the distance. -/
def sincGap (u : ℝ) : ℝ :=
  (((((33775 / 268435456 * u + -4973153 / 2147483648) * u + 7013541 / 268435456) * u + -1600083 / 8388608) * u
    + 6809379 / 8388608) * u + -6899353 / 4194304) * u + 1
    - (1 - piF ^ 2 / 6 * u ^ 1 + piF ^ 4 / 120 * u ^ 2 - piF ^ 6 / 5040 * u ^ 3 + piF ^ 8 / 362880 * u ^ 4 - piF ^ 10 / 39916800 * u ^ 5 + piF ^ 12 / 6227020800 * u ^ 6 - piF ^ 14 / 1307674368000 * u ^ 7 + piF ^ 16 / 355687428096000 * u ^ 8 - piF ^ 18 / 121645100408832000 * u ^ 9)

/-- The kernel's cosine polynomial plus the sine's Taylor sum, over the shifted distance, in the square of that distance. -/
def cosGap (u : ℝ) : ℝ :=
  (((-10423035 / 134217728 * u + 5018831 / 8388608) * u + -1336975 / 524288) * u + 5418737 / 1048576) * u + -13176795 / 4194304
    + (piF ^ 1 / 1 * u ^ 0 - piF ^ 3 / 6 * u ^ 1 + piF ^ 5 / 120 * u ^ 2 - piF ^ 7 / 5040 * u ^ 3 + piF ^ 9 / 362880 * u ^ 4 - piF ^ 11 / 39916800 * u ^ 5 + piF ^ 13 / 6227020800 * u ^ 6 - piF ^ 15 / 1307674368000 * u ^ 7)

/-- The sinc gap is at least minus its tolerance, from 0 to 1. -/
theorem sinc_low (u : ℝ) (ha : 0 ≤ u) (hb : u ≤ 1) : 0 ≤ 65 / 10 ^ 9 + sincGap u := by
  have e : ∀ s t : ℝ, 0 ≤ s → 0 ≤ t → 0 ≤ 13 / 200000000 * (s ^ 0 * t ^ 9)
      + 11055823699987 / 13743895347200000000 * (s ^ 1 * t ^ 8)
      + 2720150657459960993550352097 / 967140655691703339764940800000000 * (s ^ 2 * t ^ 7)
      + 2315907788575330799620357892377889359262957 / 238197656844656924424362225202237748019200000000 * (s ^ 3 * t ^ 6)
      + 528052163583743743684272235537260689013193612508194649219 / 33523339956441318776588841218913013391659918297766297600000000 * (s ^ 4 * t ^ 5)
      + 25053781971988749724839884464258287775430824974350147918267416186183559 / 1853496333366606485883357287232599608812553679049664358075873204633600000000 * (s ^ 5 * t ^ 4)
      + 113268454083773667318587876762823791524868727046755776469186239949103341389555195449469 / 11868967047839079589785042533754531405939021276191355351398097059012714779604575846400000000 * (s ^ 6 * t ^ 3)
      + 1345204121623695467193218115637200915137074030234687076390184560153598314510081575533340301985922159 / 265746824586253852047974380240235292383188043113513245010989356285694133852005474680591181519257600000000 * (s ^ 7 * t ^ 2)
      + 14666203463403435313965640993690494457752522848292097120886715716203500489257049259011251648948729765882724964051587 / 13987802195871812013648351960447451868198196477170507733939089661897260343131352158847618049429763156823053120307200000000 * (s ^ 8 * t ^ 1)
      + 67289300736100754524337401849645022781547170505187493877073537583425022508470377383503401125274622939031926573128696059191536957 / 550052276830951042026658379402043167784218754106772822293894675382921663779148990023405719709191343860089755190796467257003212800000000 * (s ^ 9 * t ^ 0) := by
    intro s t hs ht
    positivity
  refine (e (u - 0) (1 - u) (by linarith) (by linarith)).trans_eq ?_
  unfold sincGap piF
  ring

/-- The sinc gap is at most its tolerance, from 0 to 1 / 2. -/
theorem sinc_high_0 (u : ℝ) (ha : 0 ≤ u) (hb : u ≤ 1 / 2) : 0 ≤ 65 / 10 ^ 9 - sincGap u := by
  have e : ∀ s t : ℝ, 0 ≤ s → 0 ≤ t → 0 ≤ 13 / 390625 * (s ^ 0 * t ^ 9)
      + 13064712634349 / 53687091200000000 * (s ^ 1 * t ^ 8)
      + 6897737845828220766499455263 / 7555786372591432341913600000000 * (s ^ 2 * t ^ 7)
      + 7137760300790505407535769838574735978400531 / 3721838388197764444130659768784964812800000000 * (s ^ 3 * t ^ 6)
      + 2537419117112176116250529130190233779800072373715406965629 / 1047604373638791211768401288091031668489372446805196800000000 * (s ^ 4 * t ^ 5)
      + 1597228929746201183552507064731776969898663592967809572807037699810976591 / 810904645847890337573968813164262328855492234584228156658194527027200000000 * (s ^ 5 * t ^ 4)
      + 144964245788973647442424620324478091613102540584953913144786086878547093394907924767081 / 134874625543625904429375483338119675067488878138538128993160193852417213404597452800000000 * (s ^ 6 * t ^ 3)
      + 283438411105444481662537491413045838815850338839132196568255411250012577139660356647398443342388946747 / 730803767612198093131929545660647054053767118562161423780220729785658868093015055371625749177958400000000 * (s ^ 7 * t ^ 2)
      + 585342912385003212265674273744855030819186487177923033943711259395653656114610591062894066396031798480987702008534397 / 6993901097935906006824175980223725934099098238585253866969544830948630171565676079423809024714881578411526560153600000000 * (s ^ 8 * t ^ 1)
      + 75764752340476892355818592618860403140723525523334661533023398302726681210223242582278784244137627537286932037045434626977492603 / 9341547158967200513939253196638095756575143676138998980016193288221446837408124705692205030026226619002523314928611332037017600000000 * (s ^ 9 * t ^ 0) := by
    intro s t hs ht
    positivity
  refine (e (u - 0) (1 / 2 - u) (by linarith) (by linarith)).trans_eq ?_
  unfold sincGap piF
  ring

/-- The sinc gap is at most its tolerance, from 1 / 2 to 1. -/
theorem sinc_high_1 (u : ℝ) (ha : 1 / 2 ≤ u) (hb : u ≤ 1) : 0 ≤ 65 / 10 ^ 9 - sincGap u := by
  have e : ∀ s t : ℝ, 0 ≤ s → 0 ≤ t → 0 ≤ 75764752340476892355818592618860403140723525523334661533023398302726681210223242582278784244137627537286932037045434626977492603 / 9341547158967200513939253196638095756575143676138998980016193288221446837408124705692205030026226619002523314928611332037017600000000 * (s ^ 0 * t ^ 9)
      + 291261120085980028377403716128502769956161241640268249140972759022658962746807646653422830430011817757566314528168422624789811328651 / 4675444353063083857226596224917366926165859409907568989498104740754834142122766415198948617528126422810762919121769971684527308800000000 * (s ^ 1 * t ^ 8)
      + 126625909861747103868492599995724805596084022032926566139706573463396674938464287423547996950278622312082976033878872781475001562763 / 584430544132885482153324528114670865770732426238446123687263092594354267765345801899868577191015802851345364890221246460565913600000000 * (s ^ 2 * t ^ 7)
      + 2574066330085832166534946577625141768553403767459779459603067140678125440042926284236129903773809367454913740103267092364342699039 / 5963576980947811042380862531782355773170739043249450241706766250962798650666793896937434461132814314809646580512461698577203200000000 * (s ^ 3 * t ^ 6)
      + 1628509987554838756572582832419209919752499118989685756983605386173152162111289870816288205918500563306402936776142346674222633719 / 3211156835894975176666618286344345416322705638672780899380566442826122350359042867581695479071515400282117389506710145387724800000000 * (s ^ 4 * t ^ 5)
      + 7261712560149846432790317578588436205764696910385119197148026588451379949800022551707891911222449118470800699198650818411343017611 / 20872519433317338648333018861238245206097586651373075845973681878369795277333778639281020613964850101833763031793615945020211200000000 * (s ^ 5 * t ^ 4)
      + 70619792464446033738216015014195473471407054279567681118610696251990431650101405406646906451263598163500818547072395537747882237 / 401394604486871897083327285793043177040338204834097612422570805353265293794880358447711934883939425035264673688338768173465600000000 * (s ^ 6 * t ^ 3)
      + 289228265911556463916229866737663443808964481710616024892672945440016504191915352179325599096190407748592429482984668234825657437 / 2609064929164667331041627357654780650762198331421634480746710234796224409666722329910127576745606262729220378974201993127526400000000 * (s ^ 7 * t ^ 2)
      + 161946774887332658664658931668654904286925542954545521696541340212106552036067532673358998933551536616191330948866099502944154497 / 3320628091664122057689343909742448100970070603627534793677631207922467430484919328976526006767135243473553209603529809435033600000000 * (s ^ 8 * t ^ 1)
      + 4217495251922880939128187472620589030401267528692973021132770216354793782818991319539342436920251762779741601674844684218880707 / 1074320853185451253958317147269615562078552254114790668542763037857268874568650371139464296307014343476737803107024350111334400000000 * (s ^ 9 * t ^ 0) := by
    intro s t hs ht
    positivity
  refine (e (u - 1 / 2) (1 - u) (by linarith) (by linarith)).trans_eq ?_
  unfold sincGap piF
  ring

/-- The sinc gap is at most its tolerance, on the whole interval. -/
theorem sinc_high (u : ℝ) (ha : 0 ≤ u) (hb : u ≤ 1) : 0 ≤ 65 / 10 ^ 9 - sincGap u := by
  rcases le_total u (1 / 2) with h0 | h0
  · exact sinc_high_0 u ha h0
  exact sinc_high_1 u h0 hb

/-- The cosine gap is not below its tolerance, from 0 to 1 / 16. -/
theorem cos_low_0 (u : ℝ) (ha : 0 ≤ u) (hb : u ≤ 1 / 16) : 0 ≤ 495 / 10 ^ 10 - 43712 / 10 ^ 12 * (1 - 3 * u) + cosGap u * (21 / 100 + 25 / 21 * u) := by
  have e : ∀ s t : ℝ, 0 ≤ s → 0 ≤ t → 0 ≤ 6069157888 / 244140625 * (s ^ 0 * t ^ 8)
      + 301474204984071422447 / 4294967296000000000 * (s ^ 1 * t ^ 7)
      + 553296027933272077124108511448626054613 / 12693721105953606334414848000000000000 * (s ^ 2 * t ^ 6)
      + 75357379186514521712362178973116702785103325095137057 / 1020847100762815390390123822295304634368000000000000 * (s ^ 3 * t ^ 5)
      + 3136488860402991889328195004538075169279027588079472987651819000694833 / 7509228150242855405955900433036514999731821698699650662400000000000 * (s ^ 4 * t ^ 4)
      + 175596801857750103641044335007599954556608406846618164253082188922397867591348633391607 / 232502580057507117589208338110457294929446733499989897077037534789238784000000000000 * (s ^ 5 * t ^ 3)
      + 1265442202584335874380764857711619360988063723031679402660240654190761964238015879854793628054686735469 / 2041842139173852539989900437166859546826501708185751243811717433256075348964934392007884800000000000 * (s ^ 6 * t ^ 2)
      + 468366828460329725249728288095171231817708681873796892811803685073291550500047325545031980779782396647173666995170341 / 1915758228569320569259765388176646613378707275283592442754421829889317583173753386753394603925067268096000000000000 * (s ^ 7 * t ^ 1)
      + 6091212589246168573975114867876453072907687080787488432453889937846431958185835435280301963621934622920205783229938021 / 160923691199822927817820292606838315523811411123821765191371433710702676986595284487285146729705650520064000000000000 * (s ^ 8 * t ^ 0) := by
    intro s t hs ht
    positivity
  refine (e (u - 0) (1 / 16 - u) (by linarith) (by linarith)).trans_eq ?_
  unfold cosGap piF
  ring

/-- The cosine gap is not below its tolerance, from 1 / 16 to 1 / 8. -/
theorem cos_low_1 (u : ℝ) (ha : 1 / 16 ≤ u) (hb : u ≤ 1 / 8) : 0 ≤ 495 / 10 ^ 10 - 43712 / 10 ^ 12 * (1 - 3 * u) + cosGap u * (21 / 100 + 25 / 21 * u) := by
  have e : ∀ s t : ℝ, 0 ≤ s → 0 ≤ t → 0 ≤ 6091212589246168573975114867876453072907687080787488432453889937846431958185835435280301963621934622920205783229938021 / 160923691199822927817820292606838315523811411123821765191371433710702676986595284487285146729705650520064000000000000 * (s ^ 0 * t ^ 8)
      + 14529146959317750065656165421507216423458866003800218980767682364846605272242347904675536258112308162090176126021174923 / 40230922799955731954455073151709578880952852780955441297842858427675669246648821121821286682426412630016000000000000 * (s ^ 1 * t ^ 7)
      + 4127673353330948778391128677404101804029287548870972217151336148501166384121669596751323996147109396712197461688587201 / 2873637342853980853889648082264969920068060912925388664131632744833976374760630080130091905887600902144000000000000 * (s ^ 2 * t ^ 6)
      + 891659413312117326995469568774497071038311646767749241360677062998244934837852790034513503359947547375203984420762853 / 287363734285398085388964808226496992006806091292538866413163274483397637476063008013009190588760090214400000000000 * (s ^ 3 * t ^ 5)
      + 143306269502567023035658972790461299150182694598060373085176711921298442833369609207930471754938846063078586946090647 / 35920466785674760673620601028312124000850761411567358301645409310424704684507876001626148823595011276800000000000 * (s ^ 4 * t ^ 4)
      + 1127597579764709443484584542190708448767189837380923532654891303361374580970901186107298166890118886664945860135422567 / 359204667856747606736206010283121240008507614115673583016454093104247046845078760016261488235950112768000000000000 * (s ^ 5 * t ^ 3)
      + 88918333502532024782121227313563485387163343315208836968822300427209959451191769111092638216965305624702928586830309 / 59867444642791267789367668380520206668084602352612263836075682184041174474179793336043581372658352128000000000000 * (s ^ 6 * t ^ 2)
      + 81704456212055178250254222890947368290447645208401737637904658433405990969472069843345720583677004360849365101014727 / 209536056249769437262786839331820723338296108234142923426264887644144110659629276676152534804304232448000000000000 * (s ^ 7 * t ^ 1)
      + 503771661716309838208904794646945599628995823487172938922365394981514919163273438213806839117499206778619731294149 / 11429239431805605668879282145372039454816151358225977641432630235135133308707051455062865534780230860800000000000 * (s ^ 8 * t ^ 0) := by
    intro s t hs ht
    positivity
  refine (e (u - 1 / 16) (1 / 8 - u) (by linarith) (by linarith)).trans_eq ?_
  unfold cosGap piF
  ring

/-- The cosine gap is not below its tolerance, from 1 / 8 to 1 / 4. -/
theorem cos_low_2 (u : ℝ) (ha : 1 / 8 ≤ u) (hb : u ≤ 1 / 4) : 0 ≤ 495 / 10 ^ 10 - 43712 / 10 ^ 12 * (1 - 3 * u) + cosGap u * (21 / 100 + 25 / 21 * u) := by
  have e : ∀ s t : ℝ, 0 ≤ s → 0 ≤ t → 0 ≤ 503771661716309838208904794646945599628995823487172938922365394981514919163273438213806839117499206778619731294149 / 2925885294542235051233096229215242100432934747705850276206753340194594127029005172496093576903739100364800000000000 * (s ^ 0 * t ^ 8)
      + 29125309365532986155704831931380663627931435958776308925015728462527291246448086563691784022172821130446975783698053 / 26820615199970487969636715434473052587301901853970294198561905618450446164432547414547524454950941753344000000000000 * (s ^ 1 * t ^ 7)
      + 386523585874951409242197725931285707438039593875795919211111748880458071794453622754297437488808876119205561955973 / 147366017582255428404597337552049739490669790406430187904186294606870583321057952827184200301928251392000000000000 * (s ^ 2 * t ^ 6)
      + 12083786697607723860066039694459948102401657818405043047521508198069145174015227892678388476528888026303728564616573 / 2873637342853980853889648082264969920068060912925388664131632744833976374760630080130091905887600902144000000000000 * (s ^ 3 * t ^ 5)
      + 2382394023865582498847560371720997685038650817025172884937471717730055039056710804979647864276261603545789080573853 / 287363734285398085388964808226496992006806091292538866413163274483397637476063008013009190588760090214400000000000 * (s ^ 4 * t ^ 4)
      + 57087302514432679854912352132847022243588239809676917473724626714404349974655220460374180647367116567675028816901 / 4105196204077115505556640117521385600097229875607698091616618206905680535372328685900131294125144145920000000000 * (s ^ 5 * t ^ 3)
      + 4361053580685800773963308841694779425371216124253561891729480246887719730488450427917706035016124058113728235098161 / 359204667856747606736206010283121240008507614115673583016454093104247046845078760016261488235950112768000000000000 * (s ^ 6 * t ^ 2)
      + 5302451482054174032770008816979036586643028801133807356708050376636702473430760309828496728596862738398559113265497 / 1257216337498616623576721035990924340029776649404857540557589325864864663957775660056915208825825394688000000000000 * (s ^ 7 * t ^ 1)
      + 4551067667141585952209412082575545167357215094707199331512147851395433920878671453311385034680593396147258632313 / 24177237259588781222629250692133160385188012488554952703030563958939705076111070385709907862035103744000000000000 * (s ^ 8 * t ^ 0) := by
    intro s t hs ht
    positivity
  refine (e (u - 1 / 8) (1 / 4 - u) (by linarith) (by linarith)).trans_eq ?_
  unfold cosGap piF
  ring

/-- The cosine gap is not below its tolerance, on the whole interval. -/
theorem cos_low (u : ℝ) (ha : 0 ≤ u) (hb : u ≤ 1 / 4) : 0 ≤ 495 / 10 ^ 10 - 43712 / 10 ^ 12 * (1 - 3 * u) + cosGap u * (21 / 100 + 25 / 21 * u) := by
  rcases le_total u (1 / 16) with h0 | h0
  · exact cos_low_0 u ha h0
  rcases le_total u (1 / 8) with h1 | h1
  · exact cos_low_1 u h0 h1
  exact cos_low_2 u h1 hb

/-- The cosine gap is not above its tolerance, from 0 to 1 / 4. -/
theorem cos_high (u : ℝ) (ha : 0 ≤ u) (hb : u ≤ 1 / 4) : 0 ≤ 495 / 10 ^ 10 - 43712 / 10 ^ 12 * (1 - 3 * u) - cosGap u * (21 / 100 + 25 / 21 * u) := by
  have e : ∀ s t : ℝ, 0 ≤ s → 0 ≤ t → 0 ≤ 92608 / 244140625 * (s ^ 0 * t ^ 8)
      + 133575296357310549397069 / 8796093022208000000000000 * (s ^ 1 * t ^ 7)
      + 1822837055135568728320774890799233284651 / 51993481649985971545763217408000000000000 * (s ^ 2 * t ^ 6)
      + 117109082197054918302738984724811404037130155270706713 / 7317432018267860718316407558212743619149824000000000000 * (s ^ 3 * t ^ 5)
      + 44000029204896564946727190831671032824652839111946177517135722472643 / 384472481292434196784942102171469567986269270973422113914880000000000 * (s ^ 4 * t ^ 4)
      + 3656741553209631039164791195092429605896543139228351646887079225758095241541290110473 / 14880165123680455525709333639069266875484590943999353412930402226511282176000000000000 * (s ^ 5 * t ^ 3)
      + 21535988464751609499536668915158354227886962081901119882142075915315582202903944021880198023068807647 / 163347371133908203199192034973348763746120136654860099504937394660486027917194751360630784000000000000 * (s ^ 6 * t ^ 2)
      + 1420153730410674753165119682735231122274324977249803252488721935883452261234789873968118976629059723278373649867 / 156388426821985352592633909238909927622751614308864689204442598358311639442755378510481192157148348416000000000000 * (s ^ 7 * t ^ 1)
      + 26740600929863212330187631463345984563289828055396856801453547339621747738141144880283239871017884409659739101063 / 6189372738454727992993088177186089058608131197070067891975824373488564499484434018741736412680986558464000000000000 * (s ^ 8 * t ^ 0) := by
    intro s t hs ht
    positivity
  refine (e (u - 0) (1 / 4 - u) (by linarith) (by linarith)).trans_eq ?_
  unfold cosGap piF
  ring

/-- The kernel's sinc polynomial is near the sine's quotient on the unit interval. -/
theorem sinc_close (x : ℝ) (h0 : 0 < x) (h1 : x ≤ 1) : |sincR x - Real.sin (piF * x) / (piF * x)| ≤ 7 / 10 ^ 8 := by
  have hx : 0 < piF * x := by unfold piF; positivity
  have hx1 : piF * x ≤ 315 / 100 := by unfold piF; linarith
  have hu0 : 0 ≤ x * x := by positivity
  have hu1 : x * x ≤ 1 := by nlinarith
  have ht : sinT 10 (piF * x) / (piF * x) = sincR x - sincGap (x * x) := by
    rw [div_eq_iff hx.ne']
    simp only [sinT, Finset.sum_range_succ, Finset.sum_range_zero, Nat.factorial]
    unfold sincR sincGap
    push_cast
    ring
  have hb := sin_bound 10 (piF * x) (by rw [abs_of_pos hx, div_le_iff₀ (by positivity)]; push_cast; linarith)
  rw [abs_of_pos hx] at hb
  have hq : |Real.sin (piF * x) / (piF * x) - sinT 10 (piF * x) / (piF * x)| ≤ 3 / 10 ^ 9 := by
    rw [← sub_div, abs_div, abs_of_pos hx, div_le_iff₀ hx]
    refine hb.trans ?_
    have hp : (piF * x) ^ 19 ≤ (315 / 100) ^ 19 := pow_le_pow_left₀ hx.le hx1 19
    have hp' := mul_le_mul_of_nonneg_right hp hx.le
    rw [← pow_succ] at hp'
    simp only [Nat.factorial]
    push_cast
    norm_num at hp' ⊢
    linarith
  rw [ht] at hq
  have hl := sinc_low (x * x) hu0 hu1
  have hh := sinc_high (x * x) hu0 hu1
  rw [abs_le] at hq ⊢
  constructor <;> linarith [hq.1, hq.2]

/-- The cosine at half the f32 `π` is nearly zero. -/
theorem cos_half : |Real.cos (piF / 2)| ≤ 43712 / 10 ^ 12 := by
  have hb := cos_bound 10 (piF / 2) (by unfold piF; norm_num)
  simp only [cosT, Finset.sum_range_succ, Finset.sum_range_zero, Nat.factorial] at hb
  unfold piF at hb ⊢
  rw [abs_le] at hb ⊢
  norm_num at hb ⊢
  constructor <;> linarith [hb.1, hb.2]

/-- The sine at half the f32 `π` is nearly one. -/
theorem sin_half : |Real.sin (piF / 2) - 1| ≤ 1 / 10 ^ 11 := by
  have hb := sin_bound 10 (piF / 2) (by unfold piF; norm_num)
  simp only [sinT, Finset.sum_range_succ, Finset.sum_range_zero, Nat.factorial] at hb
  unfold piF at hb ⊢
  rw [abs_le] at hb ⊢
  norm_num at hb ⊢
  constructor <;> linarith [hb.1, hb.2]

/-- The cosine lies below a parabola on the half period. -/
theorem cos_parabola (w : ℝ) (hw : |w| ≤ 1 / 2) : |Real.cos (piF * w)| ≤ 1 - 3 * (w * w) := by
  have hu : w * w ≤ 1 / 4 := by have := abs_mul_abs_self w; nlinarith [abs_nonneg w]
  have hu0 : 0 ≤ w * w := mul_self_nonneg w
  have hb := cos_bound 4 (piF * w) (by
    rw [abs_mul, abs_of_pos (by unfold piF; norm_num), div_le_iff₀ (by positivity)]
    unfold piF; push_cast; linarith)
  have hr : |piF * w| ^ (2 * 4) / ((2 * 4).factorial : ℝ) * 2 = piF ^ 8 / 20160 * (w * w) ^ 4 := by
    rw [show |piF * w| ^ (2 * 4) = (|piF * w| * |piF * w|) ^ 4 by ring, abs_mul_abs_self]
    simp only [Nat.factorial]
    push_cast
    ring
  have ht : cosT 4 (piF * w) = 1 - piF ^ 2 / 2 * (w * w) + piF ^ 4 / 24 * (w * w) ^ 2 - piF ^ 6 / 720 * (w * w) ^ 3 := by
    simp only [cosT, Finset.sum_range_succ, Finset.sum_range_zero, Nat.factorial]
    push_cast
    ring
  rw [hr, ht] at hb
  clear hr ht
  generalize Real.cos (piF * w) = z at *
  generalize w * w = u at *
  have h2 : u ^ 2 ≤ u / 4 := by nlinarith
  have h2' : u / 2 - 1 / 16 ≤ u ^ 2 := by nlinarith [sq_nonneg (u - 1 / 4)]
  have h3 : u ^ 3 ≤ u ^ 2 / 4 := by nlinarith
  have h3' : 0 ≤ u ^ 3 := by positivity
  have h4 : u ^ 4 ≤ u ^ 3 / 4 := by nlinarith
  have h4' : 0 ≤ u ^ 4 := by positivity
  unfold piF at hb
  rw [abs_le] at hb ⊢
  norm_num at hb ⊢
  constructor <;> linarith [hb.1, hb.2]

/-- The kernel's cosine polynomial is near the cosine on the unit interval. -/
theorem cos_close (x : ℝ) (h0 : 0 ≤ x) (h1 : x ≤ 1) : |cosR x - Real.cos (piF * x)| ≤ 5 / 10 ^ 8 := by
  obtain ⟨w, rfl⟩ : ∃ w : ℝ, x = w + 1 / 2 := ⟨x - 1 / 2, by ring⟩
  have hw : |w| ≤ 1 / 2 := abs_le.2 ⟨by linarith, by linarith⟩
  have hww := abs_mul_abs_self w
  have hu0 : 0 ≤ w * w := mul_self_nonneg w
  have hu1 : w * w ≤ 1 / 4 := by nlinarith [abs_nonneg w]
  have hs := sin_bound 8 (piF * w) (by
    rw [abs_mul, abs_of_pos (by unfold piF; norm_num), div_le_iff₀ (by positivity)]
    unfold piF; push_cast; linarith)
  have hr : |piF * w| ^ (2 * 8) / ((2 * 8).factorial : ℝ) * 2 ≤ 2 / 10 ^ 10 := by
    have hq : |piF * w| ≤ 1571 / 1000 := by
      rw [abs_mul, abs_of_pos (by unfold piF; norm_num)]
      unfold piF; linarith
    have hp := pow_le_pow_left₀ (abs_nonneg _) hq 16
    simp only [Nat.factorial]
    push_cast
    norm_num at hp ⊢
    linarith
  have ht : sinT 8 (piF * w) = w * cosGap (w * w) - cosR (w + 1 / 2) := by
    simp only [sinT, Finset.sum_range_succ, Finset.sum_range_zero, Nat.factorial]
    unfold cosR cosGap
    push_cast
    ring
  have hg : |w * cosGap (w * w)| ≤ 495 / 10 ^ 10 - 43712 / 10 ^ 12 * (1 - 3 * (w * w)) := by
    have hl := cos_low (w * w) hu0 hu1
    have hh := cos_high (w * w) hu0 hu1
    have hwt : |w| ≤ 21 / 100 + 25 / 21 * (w * w) := by nlinarith [sq_nonneg (|w| - 42 / 100)]
    have hG : |cosGap (w * w)| * (21 / 100 + 25 / 21 * (w * w)) ≤ 495 / 10 ^ 10 - 43712 / 10 ^ 12 * (1 - 3 * (w * w)) := by
      rcases abs_cases (cosGap (w * w)) with h | h <;> rw [h.1] <;> linarith
    rw [abs_mul, mul_comm]
    exact (mul_le_mul_of_nonneg_left hwt (abs_nonneg _)).trans hG
  have hc : |Real.cos (piF / 2) * Real.cos (piF * w)| ≤ 43712 / 10 ^ 12 * (1 - 3 * (w * w)) := by
    rw [abs_mul]
    exact mul_le_mul cos_half (cos_parabola w hw) (abs_nonneg _) (by norm_num)
  have hd : |(Real.sin (piF / 2) - 1) * Real.sin (piF * w)| ≤ 1 / 10 ^ 11 := by
    rw [abs_mul]
    exact (mul_le_mul sin_half (Real.abs_sin_le_one _) (abs_nonneg _) (by norm_num)).trans_eq (mul_one _)
  have e : cosR (w + 1 / 2) - Real.cos (piF * (w + 1 / 2))
      = w * cosGap (w * w) + (Real.sin (piF * w) - sinT 8 (piF * w)) - Real.cos (piF / 2) * Real.cos (piF * w)
        + (Real.sin (piF / 2) - 1) * Real.sin (piF * w) := by
    rw [ht, show piF * (w + 1 / 2) = piF / 2 + piF * w by ring, Real.cos_add]
    ring
  rw [e]
  have hs' := hs.trans hr
  rw [abs_le] at hg hc hd hs' ⊢
  constructor <;> linarith [hg.1, hg.2, hc.1, hc.2, hd.1, hd.2, hs'.1, hs'.2]

end Cert.Approx

end
-- ==== Proof.Close.lean ====
/-
  The kernel's embedding against the reference's formula: within 1e-5 at every nonnegative distance.
-/
module

public import proofs.«01_k».proof.Defs
public import proofs.«01_k».proof.Proof.KernelRun
public import proofs.«01_k».proof.Proof.Reference
public import proofs.«01_k».proof.Proof.Approx
public import proofs.«01_k».proof.Proof.Gen.Pre_nonnegative_inputs
public import proofs.«01_k».proof.Proof.Gen.Post_embedding_close

@[expose] public section

set_option maxRecDepth 16384

noncomputable section

open Idealize.ShloMosaic Idealize.ShloMosaic.TcCoe Idealize.SL.Sem

namespace Cert.Close

open Cert.Lit Cert.RealKernel Cert.RefRead Cert.Trig Cert.Approx Cert.KernelIdeal.Blocks

/-- The sine over its argument, one at zero. -/
def sc (t : ℝ) : ℝ := if t = 0 then 1 else Real.sin t / t

/-- The reference's embedding at a real distance and the weight `n + 1`. -/
theorem refEmb_coe (n : ℕ) (x : ℝ) : refEmb (x : EReal) (((n + 1 : ℕ) : ℝ) : EReal)
    = ((sc (piF * x) * cutR x * chebU n (Real.cos (piF * x)) : ℝ) : EReal) := by
  have hn : (((n + 1 : ℕ) : ℝ)) ≠ 0 := by positivity
  have hp : piF ≠ 0 := by unfold piF; norm_num
  unfold refEmb sc
  rw [refCut_coe, lit_40490FDB, ← EReal.coe_mul, ← EReal.coe_mul, Ideal.sin_coe]
  by_cases hx : x = 0
  · subst hx
    have h1 : ∀ n : ℕ, chebU n 1 = n + 1 ∧ chebU (n + 1) 1 = n + 2 := by
      intro n
      induction n with
      | zero => simp [chebU]
      | succ n ih =>
        refine ⟨by rw [ih.2]; push_cast; ring, ?_⟩
        have r : chebU (n + 1 + 1) 1 = 2 * 1 * chebU (n + 1) 1 - chebU n 1 := rfl
        rw [r, ih.1, ih.2]
        push_cast
        ring
    simp only [zero_mul, mul_zero, EReal.coe_zero, if_true, Real.cos_zero]
    rw [(h1 n).1, ← EReal.coe_one, ← EReal.coe_mul, ← EReal.coe_mul]
    congr 1
    push_cast
    ring
  · have hxn : x * ((n + 1 : ℕ) : ℝ) ≠ 0 := mul_ne_zero hx hn
    have hpx : piF * x ≠ 0 := mul_ne_zero hp hx
    rw [if_neg (by exact_mod_cast hxn), if_neg hpx, Ideal.div_coe (by unfold piF at hp; exact mul_ne_zero hp hxn), ← EReal.coe_mul,
      ← EReal.coe_mul, ← EReal.coe_mul]
    congr 1
    have hs := (chebU_mul_sin (piF * x) n).1
    rw [show (13176795 / 4194304 : ℝ) * (x * ((n + 1 : ℕ) : ℝ)) = ((n + 1 : ℕ) : ℝ) * (piF * x) by unfold piF; ring, ← hs]
    field_simp

/-- The cutoff lies in the unit interval at a nonnegative distance. -/
theorem cutR_mem (x : ℝ) : 0 ≤ cutR x ∧ cutR x ≤ 1 := by
  refine ⟨le_max_right _ _, max_le ?_ zero_le_one⟩
  have : 0 ≤ x * x * x * (x * x * x) * (28 - 48 * x + 21 * (x * x)) := by
    have h6 : 0 ≤ x * x * x * (x * x * x) := mul_self_nonneg _
    exact mul_nonneg h6 (by nlinarith [sq_nonneg (7 * x - 8)])
  linarith

/-- The kernel's sinc polynomial against the sine's quotient, zero included. -/
theorem sc_close (x : ℝ) (h0 : 0 ≤ x) (h1 : x ≤ 1) : |sincR x - sc (piF * x)| ≤ 7 / 10 ^ 8 := by
  unfold sc
  rcases h0.eq_or_lt with h | h
  · subst h
    simp only [sincR, mul_zero, if_true]
    norm_num
  · rw [if_neg (by unfold piF; positivity)]
    exact sinc_close x h h1

/-- The kernel's sinc polynomial stays below 11/10 in absolute value on the unit interval. -/
theorem abs_sincR (x : ℝ) (h0 : 0 ≤ x) (h1 : x ≤ 1) : |sincR x| ≤ 11 / 10 := by
  have hu0 : 0 ≤ x * x := mul_nonneg h0 h0
  have hu1 : x * x ≤ 1 := by nlinarith
  unfold sincR
  generalize x * x = u at *
  have p : ∀ k : ℕ, 0 ≤ u ^ k ∧ u ^ k ≤ 1 := fun k => ⟨pow_nonneg hu0 k, pow_le_one₀ hu0 hu1⟩
  have p2 : u ^ 2 ≤ u := by nlinarith
  have p4 : u ^ 4 ≤ u := by nlinarith [p 2, p 4, mul_le_mul_of_nonneg_left (p 3).2 hu0]
  have p6 : u ^ 6 ≤ u := by nlinarith [mul_le_mul_of_nonneg_left (p 5).2 hu0]
  refine abs_le.2 ⟨?_, ?_⟩ <;> ring_nf <;> linarith [(p 2).1, (p 3).1, (p 3).2, (p 4).1, (p 5).1, (p 5).2, (p 6).1]

/-- The two real embeddings differ by at most the tolerance. -/
theorem real_close (x : ℝ) (h0 : 0 ≤ x) (n : ℕ) (hn : n ≤ 7) :
    |sincR x * cutR x * chebU n (cosR x) - sc (piF * x) * cutR x * chebU n (Real.cos (piF * x))| ≤ 2748779 / 274877906944 := by
  rcases le_total 1 x with h1 | h1
  · rw [cutR_eq_zero x (h1.trans (le_abs_self x))]
    norm_num
  · have hs := sc_close x h0 h1
    have hu := abs_chebU_sub (piF * x) (cosR x) (cos_close x h0 h1) n hn
    have hb := abs_chebU_cos (piF * x) n
    have ha := abs_sincR x h0 h1
    obtain ⟨hc0, hc1⟩ := cutR_mem x
    have hn' : (n : ℝ) ≤ 7 := by exact_mod_cast hn
    have e : sincR x * cutR x * chebU n (cosR x) - sc (piF * x) * cutR x * chebU n (Real.cos (piF * x))
        = cutR x * ((sincR x - sc (piF * x)) * chebU n (Real.cos (piF * x))
          + sincR x * (chebU n (cosR x) - chebU n (Real.cos (piF * x)))) := by ring
    rw [e, abs_mul, abs_of_nonneg hc0]
    have k1 : |(sincR x - sc (piF * x)) * chebU n (Real.cos (piF * x))| ≤ 7 / 10 ^ 8 * 8 := by
      rw [abs_mul]
      exact mul_le_mul hs (hb.trans (by linarith)) (abs_nonneg _) (by norm_num)
    have k2 : |sincR x * (chebU n (cosR x) - chebU n (Real.cos (piF * x)))|
        ≤ 11 / 10 * (8401 / 10 ^ 9) := by
      rw [abs_mul]
      exact mul_le_mul ha hu (abs_nonneg _) (by norm_num)
    have k3 := (abs_add_le _ _).trans (add_le_add k1 k2)
    have k4 := mul_le_mul hc1 k3 (abs_nonneg _) zero_le_one
    refine k4.trans ?_
    norm_num

/-- The precondition says that the distance is a nonnegative real number. -/
theorem pre_dist (d : FVec Ideal Cert.Pre_nonnegative_inputs.S6400000x1 .f32) (w : FVec Ideal Cert.Pre_nonnegative_inputs.S1x8 .f32)
    (h : (Cert.Pre_nonnegative_inputs.fn (F := Ideal) d w).1 = fun _ => 1#1) (e : Fin 6400000) :
    ∃ x : ℝ, 0 ≤ x ∧ d (ix2 e 0) = (x : EReal) := by
  have h := congrFun h (ix2 e 0)
  pointwise [Cert.Pre_nonnegative_inputs.fn] at h
  rw [lit_inf] at h
  generalize (d (ix2 e 0) : EReal) = y at h ⊢
  change EReal at y
  induction y with
  | bot => simp [IntOp.andi] at h
  | top => simp [IntOp.andi] at h
  | coe x =>
    by_cases hx : (0 : EReal) ≤ (x : EReal)
    · exact ⟨x, by exact_mod_cast hx, rfl⟩
    · simp [hx, IntOp.andi] at h

/-- The precondition says that the weights are 1 to 8. -/
theorem pre_weight (d : FVec Ideal Cert.Pre_nonnegative_inputs.S6400000x1 .f32) (w : FVec Ideal Cert.Pre_nonnegative_inputs.S1x8 .f32)
    (h : (Cert.Pre_nonnegative_inputs.fn (F := Ideal) d w).2 = fun _ => 1#1) (n : Fin 8) :
    w (ix2 0 n) = (((n.val + 1 : ℕ) : ℝ) : EReal) := by
  have h := congrFun h (ix2 0 n)
  pointwise [Cert.Pre_nonnegative_inputs.fn] at h
  have hv : FloatOps.sitofp (F := Ideal) .f32 (IntOp.addi (BitVec.ofNat 32 n.val) 1#32) = (((n.val + 1 : ℕ) : ℝ) : EReal) := by
    show (((IntOp.addi (BitVec.ofNat 32 n.val) 1#32).toInt : ℝ) : EReal) = _
    have hi : (IntOp.addi (BitVec.ofNat 32 n.val) 1#32).toInt = ((n.val + 1 : ℕ) : ℤ) := by
      clear h
      revert n
      decide
    rw [hi]
    norm_cast
  rw [hv] at h
  by_contra hn
  simp only [hn, decide_false] at h
  exact absurd h (by decide)

/-- The postcondition at one entry: the embedding given is within the tolerance of the reference's formula. -/
theorem post_at (d : FVec Ideal Cert.Post_embedding_close.S6400000x1 .f32) (w : FVec Ideal Cert.Post_embedding_close.S1x8 .f32)
    (a : FVec Ideal Cert.Post_embedding_close.S6400000x8 .f32) (b : FVec Ideal Cert.Post_embedding_close.S6400000x1 .f32)
    (e : Fin 6400000) (n : Fin 8) (y z : ℝ) (hr : refEmb (d (ix2 e 0)) (w (ix2 0 n)) = (z : EReal)) (ha : a (ix2 e n) = (y : EReal))
    (h : |y - z| ≤ 2748779 / 274877906944) : Cert.Post_embedding_close.fn (F := Ideal) d w a b (ix2 e n) = 1#1 := by
  pointwise [Cert.Post_embedding_close.fn, Cert.Post_embedding_close.fn_part1, Cert.Post_embedding_close.fn_where,
    Cert.Post_embedding_close.fn_part2, Cert.Post_embedding_close.fn_where_0]
  simp only [id_eq]
  pointwise
  have e1 : BitVec.ofBool (decide (FloatOps.absf (F := Ideal) (φ := .f32) ((y : EReal) - (z : EReal)) ≤ Ideal.ofBits .f32 0x3727C5AC#32))
      = 1#1 := by
    have ha : FloatOps.absf (F := Ideal) (φ := .f32) ((y : EReal) - (z : EReal)) = max ((y : EReal) - (z : EReal)) (-((y : EReal) - (z : EReal))) := rfl
    rw [ha, lit_3727C5AC, ← EReal.coe_sub, ← EReal.coe_neg]
    have h' : max ((y - z : ℝ) : EReal) ((-(y - z) : ℝ) : EReal) ≤ ((2748779 / 274877906944 : ℝ) : EReal) :=
      max_le (EReal.coe_le_coe_iff.2 (le_of_abs_le h)) (EReal.coe_le_coe_iff.2 ((neg_le_abs _).trans h))
    rw [decide_eq_true h']
    rfl
  rw [← hr, ← ha] at e1
  exact e1

/-- The kernel's embedding is within the tolerance of the reference's formula. -/
theorem embedding_close : Cert.holds_KernelIdeal_embedding_close_pre_nonnegative_inputs := by
  intro m ρ hpre
  refine (θ_run _ _ _).mono (fun r h c => ⟨(h c).2.2.1, (h c).2.2.2, ?_⟩) (Cert.KernelIdeal.Blocks.run m ρ)
  funext i
  idx_vars i
  obtain ⟨x, h0, hx⟩ := pre_dist _ _ (hpre c).1 i0
  have hw := pre_weight _ _ (hpre c).2 i1
  rw [(h c).1, (h c).2.1]
  refine post_at _ _ _ _ i0 i1 _ _ ?_ ?_ (real_close x h0 i1.val (by omega))
  · rw [hx, hw]
    exact refEmb_coe _ _
  · show embE i1 (dist m c (ix2 i0 0)) = _
    rw [show dist m c (ix2 i0 0) = (x : EReal) from hx]
    exact embE_coe _ _

end Cert.Close

end
-- ==== Proof.lean ====
/-
  The claims about the Bessel edge embedding kernel, put together.

  The frames are the generated frame runs; `preserves` holds because the ideal pass rewrote nothing; the value claims are
  proved in their own modules.
-/
module

public import proofs.«01_k».proof.Defs
public import proofs.«01_k».proof.Proof.Gen.Kernel.Frame
public import proofs.«01_k».proof.Proof.Gen.KernelIdeal.Frame
public import proofs.«01_k».proof.Proof.Reference
public import proofs.«01_k».proof.Proof.AgainstReference
public import proofs.«01_k».proof.Proof.Chebyshev
public import proofs.«01_k».proof.Proof.Close
public import Idealize.ShloMosaic.Lib.Quiescent

@[expose] public section

noncomputable section

namespace Cert.Proof

open Idealize.ShloMosaic Idealize.ShloMosaic.TcCoe Idealize.SL.Sem

/-- The reference terminates without fault, leaves its arguments unchanged and every semaphore at zero. -/
theorem reference_frame : Cert.quiescent_ReferenceIdeal := fun m ρ _ =>
  (θ_run _ _ _).mono (fun r h => ⟨fun c => (h c).2.2, sem_eq_zero_of_no_sems (by decide) r.2⟩) (Cert.RefRead.run m ρ)

/-- The Chebyshev form terminates without fault, leaves its arguments unchanged and every semaphore at zero. -/
theorem chebyshev_frame : Cert.quiescent_ChebyshevIdeal := fun m ρ _ =>
  (θ_run _ _ _).mono (fun r h => ⟨fun c => (h c).2.2, sem_eq_zero_of_no_sems (by decide) r.2⟩) (Cert.Chebyshev.run m ρ)

/-- Every claim of the certificate. -/
theorem claim : Cert.Claim :=
  ⟨Cert.Kernel.Gen.facts, Cert.KernelIdeal.Gen.facts, Cert.ReferenceIdeal.Gen.facts, Cert.ChebyshevIdeal.Gen.facts, Cert.Pre_nonnegative_inputs.Gen.facts,
    Cert.Post_embedding_close.Gen.facts, Cert.On_exact_part.Gen.facts, Cert.On_below_infinity.Gen.facts,
    fun m ρ _ => Cert.Kernel.Gen.frame m ρ, fun m ρ _ => Cert.KernelIdeal.Gen.frame m ρ,
    fun m ρ _ => Cert.KernelIdeal.Gen.frame m ρ, reference_frame,
    chebyshev_frame, trivial,
    Cert.Against.reference_exact, Cert.Chebyshev.chebyshev_exact,
    Cert.Close.embedding_close⟩

end Cert.Proof

end
